-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S128x8192 : Shape := ⟨2, ![128, 8192]⟩
abbrev S_ : Shape := ⟨0, ![]⟩

abbrev nBuf : Space → Nat
  | .hbm => 40
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .i1⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | .hbm, ⟨26, _⟩ => ⟨S_, .f32⟩
  | .hbm, ⟨27, _⟩ => ⟨S_, .f32⟩
  | .hbm, ⟨28, _⟩ => ⟨S4096x8192, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S_, .f32⟩
  | .hbm, ⟨34, _⟩ => ⟨S4096x8192, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S4096x8192, .f32⟩
  | .hbm, ⟨39, _⟩ => ⟨S4096x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 3 8 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 2

abbrev nD : Nat := 4
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_1 : BitVec 32 := 0#32
  let v8 : BitVec 1 := Scalar.cmpi .ne v7 c0_i32_1
  v8

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_8 : BitVec 32 := 1#32
  let v18 : BitVec 32 := Scalar.muli v3 c1_i32_8
  let v19 : BitVec 32 := Scalar.addi c0_i32_9 v18
  v19.toNat
def k0_dev2 (d0 : Dev nD) : Nat :=
  let c0_i32_12 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_11 : BitVec 32 := 1#32
  let v20 : BitVec 32 := Scalar.muli v4 c1_i32_11
  let v21 : BitVec 32 := Scalar.addi c0_i32_12 v20
  v21.toNat
def k0_cond2 (i : grid0.Coords) : BitVec 1 :=
  let arg0 : BitVec 32 := BitVec.ofNat 32 (i 0).val
  let c32_i32 : BitVec 32 := 32#32
  let v9 : BitVec 1 := Scalar.cmpi .slt arg0 c32_i32
  let v10 : BitVec 32 := Scalar.extui v9
  let c0_i32_2 : BitVec 32 := 0#32
  let v11 : BitVec 1 := Scalar.cmpi .ne v10 c0_i32_2
  v11

def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_9 : BitVec 32 := 1#32
  let v21 : BitVec 32 := Scalar.muli v3 c1_i32_9
  let v22 : BitVec 32 := Scalar.addi c0_i32_10 v21
  v22.toNat
def k0_cond4 (i : grid0.Coords) : BitVec 1 :=
  let arg0 : BitVec 32 := BitVec.ofNat 32 (i 0).val
  let c0_i32_3 : BitVec 32 := 0#32
  let v12 : BitVec 1 := Scalar.cmpi .sgt arg0 c0_i32_3
  let v13 : BitVec 32 := Scalar.extui v12
  let c0_i32_4 : BitVec 32 := 0#32
  let v14 : BitVec 1 := Scalar.cmpi .ne v13 c0_i32_4
  v14

def k0_cond5 (i : grid0.Coords) : BitVec 1 :=
  let arg0 : BitVec 32 := BitVec.ofNat 32 (i 0).val
  let c32_i32_15 : BitVec 32 := 32#32
  let v24 : BitVec 1 := Scalar.cmpi .slt arg0 c32_i32_15
  let v25 : BitVec 32 := Scalar.extui v24
  let c0_i32_16 : BitVec 32 := 0#32
  let v26 : BitVec 1 := Scalar.cmpi .ne v25 c0_i32_16
  v26

def k0_dev4 (d0 : Dev nD) : Nat :=
  let c0_i32_19 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_18 : BitVec 32 := 1#32
  let v27 : BitVec 32 := Scalar.muli v4 c1_i32_18
  let v28 : BitVec 32 := Scalar.addi c0_i32_19 v27
  v28.toNat
def k0_cond6 (i : grid0.Coords) : BitVec 1 :=
  let arg0 : BitVec 32 := BitVec.ofNat 32 (i 0).val
  let c32_i32_5 : BitVec 32 := 32#32
  let v15 : BitVec 1 := Scalar.cmpi .slt arg0 c32_i32_5
  let v16 : BitVec 32 := Scalar.extui v15
  let c0_i32_6 : BitVec 32 := 0#32
  let v17 : BitVec 1 := Scalar.cmpi .ne v16 c0_i32_6
  v17

def k0_cond7 (i : grid0.Coords) : BitVec 1 :=
  let arg0 : BitVec 32 := BitVec.ofNat 32 (i 0).val
  let c31_i32 : BitVec 32 := 31#32
  let v27 : BitVec 1 := Scalar.cmpi .slt arg0 c31_i32
  let v28 : BitVec 32 := Scalar.extui v27
  let c0_i32_15 : BitVec 32 := 0#32
  let v29 : BitVec 1 := Scalar.cmpi .ne v28 c0_i32_15
  v29

def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_21 : BitVec 32 := 1#32
  let v35 : BitVec 32 := Scalar.muli v3 c1_i32_21
  let v36 : BitVec 32 := Scalar.addi c0_i32_22 v35
  v36.toNat
def k0_dev6 (d0 : Dev nD) : Nat :=
  let c0_i32_19 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_18 : BitVec 32 := 1#32
  let v33 : BitVec 32 := Scalar.muli v4 c1_i32_18
  let v34 : BitVec 32 := Scalar.addi c0_i32_19 v33
  v34.toNat
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .i1⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S_, .f32⟩
  | .hbm, ⟨27, _⟩ => ⟨S4096x8192, .f32⟩
  | .hbm, ⟨28, _⟩ => ⟨S4096x8192, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S_, .f32⟩
  | .hbm, ⟨34, _⟩ => ⟨S4096x8192, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Schedule.lean ====
/- The two-step all-reduce of the kernel's grid, as a schedule of rounds on seven semaphores a device. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Rounds
public import Idealize.ShloMosaic.Lib.StableHlo
public import Idealize.ShloMosaic.Lib.Tactic
public import Idealize.ShloMosaic.Lib.Pipeline.RegionTalk
public import Idealize.ShloMosaic.PureOps

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-! ## The two partners of a device -/

/-- The partner of the first step: the device whose number differs in the lowest bit. -/
def p1 (c : Dev nD) : Dev nD := ⟨c.val ^^^ 1, by revert c; decide⟩
/-- The partner of the second step: the device at the mirrored place. -/
def p2 (c : Dev nD) : Dev nD := ⟨3 - c.val, by revert c; decide⟩
theorem p1_p1 (c : Dev nD) : p1 (p1 c) = c := by revert c; decide
theorem p2_p2 (c : Dev nD) : p2 (p2 c) = c := by revert c; decide
/-- Both partners as permutations of the mesh. -/
def e1 : Dev nD ≃ Dev nD := ⟨p1, p1, p1_p1, p1_p1⟩
@[inherit_doc e1] def e2 : Dev nD ≃ Dev nD := ⟨p2, p2, p2_p2, p2_p2⟩

theorem dev1_eq (c : Dev nD) (h) : (⟨k0_dev1 c, h⟩ : Dev nD) = p1 c := by revert c; decide
theorem dev2_eq (c : Dev nD) (h) : (⟨k0_dev2 c, h⟩ : Dev nD) = p2 c := by revert c; decide
theorem dev3_eq (c : Dev nD) (h) : (⟨k0_dev3 c, h⟩ : Dev nD) = p1 c := by revert c; decide
theorem dev4_eq (c : Dev nD) (h) : (⟨k0_dev4 c, h⟩ : Dev nD) = p2 c := by revert c; decide
theorem dev5_eq (c : Dev nD) (h) : (⟨k0_dev5 c, h⟩ : Dev nD) = p1 c := by revert c; decide
theorem dev6_eq (c : Dev nD) (h) : (⟨k0_dev6 c, h⟩ : Dev nD) = p2 c := by revert c; decide

/-! ## The resource algebra -/

abbrev UU : Type := UR sig nD τ × URounds (GSem nD τ sig) Bool

local notation "𝕄" => MT nD τ sig ℕ (Elt F) ℕ UU ℕ

abbrev EP : Emb (UR sig nD τ) (MT nD τ sig ℕ (Elt F) ℕ UU ℕ) := embL
abbrev ER : Emb (URounds (GSem nD τ sig) Bool) (MT nD τ sig ℕ (Elt F) ℕ UU ℕ) := embR

/-! ## Cells -/

/-- A device's cell at a semaphore. -/
abbrev cell (c : Dev nD) (sm : SemLoc sig) : GSem nD τ sig := ((c : Thread nD τ), sm)

/-- The barrier; the two credits; the two pairs of send and receive semaphores. -/
abbrev barS : SemLoc sig := .reg barrier0
@[inherit_doc barS] abbrev cr1S : SemLoc sig := .reg 0
@[inherit_doc barS] abbrev cr2S : SemLoc sig := .reg 1
@[inherit_doc barS] abbrev s1S : SemLoc sig := .dma 4
@[inherit_doc barS] abbrev v1S : SemLoc sig := .dma 5
@[inherit_doc barS] abbrev s2S : SemLoc sig := .dma 6
@[inherit_doc barS] abbrev v2S : SemLoc sig := .dma 7

/-- The kernel's landing slots of the two steps, and the buffer the second step sends from. -/
abbrev r1M : Memref sig .tc .vmem S128x8192 .f32 := Memref.whole cc0_scratch0
@[inherit_doc r1M] abbrev r2M : Memref sig .tc .vmem S128x8192 .f32 := Memref.whole cc0_scratch1
@[inherit_doc r1M] abbrev t2M : Memref sig .tc .vmem S128x8192 .f32 := Memref.whole cc0_scratch2

/-- What one chunk's copy pays. -/
abbrev N : ℕ := (r1M : Memref sig .tc .vmem S128x8192 .f32).view.dmaCredit
theorem N_pos : 0 < N := View.dmaCredit_pos _ (by decide)

/-- The grid's point k. -/
abbrev point (k : ℕ) : Fin cfg0.N := ⟨min k 32, by rw [show cfg0.N = 33 from N_0]; omega⟩
theorem point_val (t : Fin cfg0.N) : point t.val = t := Fin.ext (by
  have h := t.isLt; have h' : cfg0.N = 33 := N_0; show min t.val 32 = t.val; omega)

variable (m : (ℓ : Loc nD τ sig) → Buf (Elt F) ℓ) (ρ : Dev nD → PrngReg)

/-! ## Contents -/

/-- Chunk k of device c's partial product. -/
abbrev xb (c : Dev nD) (k : ℕ) : Vec F S128x8192 .f32 := iblk m c 0 (point k)
/-- The sum of the first step. -/
abbrev sum1 (c : Dev nD) (k : ℕ) : Vec F S128x8192 .f32 := k0_pay2 (xb m c k) (xb m (p1 c) k)
/-- The sum of the second step. -/
abbrev out (c : Dev nD) (k : ℕ) : Vec F S128x8192 .f32 := k0_pay1 (sum1 m c k) (sum1 m (p2 c) k)

/-- A memref held whole by a device's TensorCore at X. -/
abbrev own1 (c : Dev nD) (M : Memref sig .tc .vmem S128x8192 .f32) (X : Vec F S128x8192 .f32) : sProp 𝕄 :=
  owns (c : Thread nD τ) M fullShare X
/-- The same at contents not chosen. -/
abbrev anyOf (c : Dev nD) (M : Memref sig .tc .vmem S128x8192 .f32) : sProp 𝕄 := iprop(∃ X, own1 (F := F) c M X)

/-! ## The schedule -/

/-- How many rounds a semaphore's cells go through. -/
def rounds (sm : SemLoc sig) : ℕ :=
  if sm = barS then 1 else if sm = cr1S ∨ sm = cr2S then 31 else if sm = s1S ∨ sm = v1S ∨ sm = s2S ∨ sm = v2S then 32 else 0

/-- What is handed over with a payment. On the barrier, the first partner hands its first landing slot and the
    second its second; a landing hands the slot written; a credit hands the partner's slot back empty. -/
def pay (g : GSem nD τ sig) (r : ℕ) (d : Bool) : sProp 𝕄 :=
  if g.2 = barS then
    (if d then iprop(anyOf (p2 g.1.1) r2M ∗ reached ER (cell (p2 g.1.1) v2S) 0) else iprop(anyOf (p1 g.1.1) r1M ∗ reached ER (cell (p1 g.1.1) v1S) 0))
  else if g.2 = cr1S then iprop(anyOf (p1 g.1.1) r1M ∗ reached ER (cell (p1 g.1.1) v1S) (r + 1))
  else if g.2 = cr2S then iprop(anyOf (p2 g.1.1) r2M ∗ reached ER (cell (p2 g.1.1) v2S) (r + 1))
  else if g.2 = s1S then own1 g.1.1 (st0_0 (point r)) (xb m g.1.1 r)
  else if g.2 = s2S then own1 g.1.1 t2M (sum1 m g.1.1 r)
  else if g.2 = v1S then iprop(own1 g.1.1 r1M (xb m (p1 g.1.1) r) ∗ reached ER (cell (p1 g.1.1) cr1S) r)
  else if g.2 = v2S then iprop(own1 g.1.1 r2M (sum1 m (p2 g.1.1) r) ∗ reached ER (cell (p2 g.1.1) cr2S) r)
  else iprop(emp)

/-- The schedule: two duties in the barrier's one round, one in every other. -/
def Rd : Rounds.Schedule (GSem nD τ sig) Bool 𝕄 where
  duties g r := if g.1.2 = .tc ∧ r < rounds g.2 then (if g.2 = barS then Finset.univ else {false}) else ∅
  unitless _ := False
  amount g _ _ := if g.2 = barS ∨ g.2 = cr1S ∨ g.2 = cr2S then 1 else N
  payload g r d := pay m g r d
  amount_pos g _ _ _ := by
    by_cases h : g.2 = barS ∨ g.2 = cr1S ∨ g.2 = cr2S
    · rw [if_pos h]; exact Nat.one_pos
    · rw [if_neg h]; exact N_pos

instance Rd_payload_storable (g : GSem nD τ sig) (r : ℕ) (d : Bool) :
    BI.Storable (upEmb : UEmb _ 𝕄) ((Rd (F := F) m).payload g r d) := by
  show BI.Storable upEmb (pay m g r d)
  unfold pay
  (repeat' split) <;> infer_instance

theorem duties_one (c : Dev nD) (sm : SemLoc sig) {r : ℕ} (hr : r < rounds sm) (hb : sm ≠ barS) : (Rd (F := F) m).duties (cell c sm) r = {false} := by
  dsimp only [Rd]; rw [if_pos ⟨rfl, hr⟩, if_neg hb]
theorem duties_bar (c : Dev nD) : (Rd (F := F) m).duties (cell c barS) 0 = Finset.univ := by
  dsimp only [Rd]; rw [if_pos ⟨rfl, by decide⟩, if_pos rfl]
theorem duties_later (g : GSem nD τ sig) (R : ℕ) (hR : rounds g.2 ≤ R) : ∀ r ≥ R, (Rd (F := F) m).duties g r = ∅ := fun r hr => by
  dsimp only [Rd]; rw [if_neg (fun h => by have := h.2; omega)]

/-- What a payment to a semaphore pays. -/
abbrev amt (sm : SemLoc sig) : ℕ := if sm = barS ∨ sm = cr1S ∨ sm = cr2S then 1 else N

theorem expect_one (c : Dev nD) (sm : SemLoc sig) {r : ℕ} (hr : r < rounds sm) (hb : sm ≠ barS) : (Rd (F := F) m).expect (cell c sm) r = amt sm := by
  unfold Schedule.expect Schedule.amountOf; rw [duties_one m c sm hr hb, Finset.sum_singleton]; rfl
theorem expect_bar (c : Dev nD) : (Rd (F := F) m).expect (cell c barS) 0 = 2 := by
  unfold Schedule.expect Schedule.amountOf; rw [duties_bar]
  show (∑ _d : Bool, (if barS = barS ∨ barS = cr1S ∨ barS = cr2S then 1 else N)) = 2
  simp

theorem rest_one (c : Dev nD) (sm : SemLoc sig) {r : ℕ} (hr : r < rounds sm) (hb : sm ≠ barS) :
    bigSep ((Rd (F := F) m).duties (cell c sm) r \ ∅) (fun u => (Rd (F := F) m).payload (cell c sm) r u) = pay m (cell c sm) r false := by
  rw [Finset.sdiff_empty, duties_one m c sm hr hb, bigSep_singleton]; rfl
theorem rest_bar (c : Dev nD) :
    bigSep ((Rd (F := F) m).duties (cell c barS) 0 \ ∅) (fun u => (Rd (F := F) m).payload (cell c barS) 0 u)
      = iprop(pay m (cell c barS) 0 false ∗ pay m (cell c barS) 0 true) := by
  rw [Finset.sdiff_empty, duties_bar]
  exact bigSep_univ_eq_bigSepL [false, true] (by decide) (by decide) _

theorem pay_barF (c : Dev nD) : pay m (cell c barS) 0 false = iprop(anyOf (p1 c) r1M ∗ reached ER (cell (p1 c) v1S) 0) := by
  dsimp only [pay]; rw [if_pos rfl]; rfl
theorem pay_barT (c : Dev nD) : pay m (cell c barS) 0 true = iprop(anyOf (p2 c) r2M ∗ reached ER (cell (p2 c) v2S) 0) := by
  dsimp only [pay]; rw [if_pos rfl]; rfl
theorem pay_cr1 (c : Dev nD) (r : ℕ) : pay m (cell c cr1S) r false = iprop(anyOf (p1 c) r1M ∗ reached ER (cell (p1 c) v1S) (r + 1)) := by
  dsimp only [pay]; rw [if_neg (by decide), if_pos rfl]
theorem pay_cr2 (c : Dev nD) (r : ℕ) : pay m (cell c cr2S) r false = iprop(anyOf (p2 c) r2M ∗ reached ER (cell (p2 c) v2S) (r + 1)) := by
  dsimp only [pay]; rw [if_neg (by decide), if_neg (by decide), if_pos rfl]
theorem pay_s1 (c : Dev nD) (r : ℕ) : pay m (cell c s1S) r false = own1 c (st0_0 (point r)) (xb m c r) := by
  dsimp only [pay]; rw [if_neg (by decide), if_neg (by decide), if_neg (by decide), if_pos rfl]
theorem pay_s2 (c : Dev nD) (r : ℕ) : pay m (cell c s2S) r false = own1 c t2M (sum1 m c r) := by
  dsimp only [pay]; rw [if_neg (by decide), if_neg (by decide), if_neg (by decide), if_neg (by decide), if_pos rfl]
theorem pay_v1 (c : Dev nD) (r : ℕ) : pay m (cell c v1S) r false = iprop(own1 c r1M (xb m (p1 c) r) ∗ reached ER (cell (p1 c) cr1S) r) := by
  dsimp only [pay]; rw [if_neg (by decide), if_neg (by decide), if_neg (by decide), if_neg (by decide), if_neg (by decide), if_pos rfl]
theorem pay_v2 (c : Dev nD) (r : ℕ) : pay m (cell c v2S) r false = iprop(own1 c r2M (sum1 m (p2 c) r) ∗ reached ER (cell (p2 c) cr2S) r) := by
  dsimp only [pay]; rw [if_neg (by decide), if_neg (by decide), if_neg (by decide), if_neg (by decide), if_neg (by decide), if_neg (by decide), if_pos rfl]

/-! ## Levels, dues -/

/-- The index of a payment is its level: what a device still owes lies above the index of the wait it makes. -/
def L (g : GSem nD τ sig) : Finset ℕ := if g.1.2 = .tc then Finset.range 1000 else ∅
@[inherit_doc L] def lv (_ : GSem nD τ sig) (i : ℕ) : ℕ := i

theorem L_of_ne (g : GSem nD τ sig) (h : g.1.2 ≠ .tc) : L g = ∅ := if_neg h
theorem mem_L {g : GSem nD τ sig} (h : g.1.2 = .tc) {i : ℕ} (hi : i < 1000) : i ∈ L g := by
  unfold L; rw [if_pos h]; exact Finset.mem_range.mpr hi

/-- Every payment of a tally is to a TensorCore's cell at an index above P. -/
def Above (P : ℕ) (O : CellTallies nD τ sig ℕ) : Prop := ∀ g i, 0 < O g i → g.1.2 = .tc ∧ P < i ∧ i < 1000

theorem above_zero (P : ℕ) : Above P 0 := fun _ _ h => absurd h (Nat.lt_irrefl 0)
theorem above_add {P : ℕ} {O O' : CellTallies nD τ sig ℕ} (h : Above P O) (h' : Above P O') : Above P (O + O') := fun g i hg => by
  rw [Pi.add_apply, Finsupp.add_apply] at hg
  rcases Nat.add_pos_iff_pos_or_pos.mp hg with hg | hg
  · exact h g i hg
  · exact h' g i hg
theorem above_tally {P : ℕ} (c : Dev nD) (sm : SemLoc sig) {i : ℕ} (n : ℕ) (hi : P < i) (hi' : i < 1000) : Above P (tallyAt (cell c sm) i n) := fun g j hg => by
  obtain ⟨rfl, rfl⟩ := Pipeline.tallyAt_pos hg
  exact ⟨rfl, hi, hi'⟩
theorem above_if {P : ℕ} {p : Prop} [Decidable p] {O : CellTallies nD τ sig ℕ} (h : p → Above P O) : Above P (if p then O else 0) := by
  split
  · exact h ‹_›
  · exact above_zero P
theorem above_sum {P : ℕ} (s : Finset ℕ) {f : ℕ → CellTallies nD τ sig ℕ} (h : ∀ k ∈ s, Above P (f k)) : Above P (∑ k ∈ s, f k) := by
  induction s using Finset.cons_induction with
  | empty => exact above_zero P
  | cons a s ha ih =>
    rw [Finset.sum_cons]
    exact above_add (h a (Finset.mem_cons_self a s)) (ih fun k hk => h k (Finset.mem_cons_of_mem hk))
theorem above_mono {P P' : ℕ} (h : P ≤ P') {O : CellTallies nD τ sig ℕ} (hO : Above P' O) : Above P O :=
  fun g i hg => ⟨(hO g i hg).1, by have := (hO g i hg).2.1; omega, (hO g i hg).2.2⟩

/-- A device may wait at index i when all it owes lies above i. -/
theorem mayWait_above (c : Dev nD) (sm : SemLoc sig) {i : ℕ} (hi : i < 1000) {O : CellTallies nD τ sig ℕ} (hO : Above i O) :
    (levAts L lv : sProp 𝕄) ⊢ MayWait (c : Thread nD τ) sm i O :=
  MayOwe.of_cut (L := L) (lev := lv) i (fun p hp => by rw [Finset.mem_singleton.mp hp]; exact mem_L rfl hi)
    (fun g j hg => mem_L (hO g j hg).1 (hO g j hg).2.2)
    (fun p hp => by rw [Finset.mem_singleton.mp hp]; exact le_refl _)
    (fun g j hg => (hO g j hg).2.1)

/-- The credits' payment in round k: to device c's first and second credit cell; nothing in the last round. -/
def C1 (c : Dev nD) (k : ℕ) : CellTallies nD τ sig ℕ := if k < 31 then tallyAt (cell c cr1S) (10 * k + 12) 1 else 0
@[inherit_doc C1] def C2 (c : Dev nD) (k : ℕ) : CellTallies nD τ sig ℕ := if k < 31 then tallyAt (cell c cr2S) (10 * k + 16) 1 else 0
/-- The landings' payment in round k, to device c's first and second receive cell. -/
def D1 (c : Dev nD) (k : ℕ) : CellTallies nD τ sig ℕ := tallyAt (cell c v1S) (10 * k + 5) N
@[inherit_doc D1] def D2 (c : Dev nD) (k : ℕ) : CellTallies nD τ sig ℕ := tallyAt (cell c v2S) (10 * k + 13) N

/-- What device c pays in round k; what it owes before the grid's point t (a round's second credit is paid one point later). -/
def P (c : Dev nD) (k : ℕ) : CellTallies nD τ sig ℕ := D1 (p1 c) k + D2 (p2 c) k + C1 (p1 c) k + C2 (p2 c) k
@[inherit_doc P] def due (c : Dev nD) : ℕ → CellTallies nD τ sig ℕ
  | 0 => (∑ k ∈ Finset.Ico 0 32, P c k) + tallyAt (cell (p2 c) barS) 1 1 + tallyAt (cell (p1 c) barS) 1 1
  | j + 1 => C2 (p2 c) j + ∑ k ∈ Finset.Ico (j + 1) 32, P c k

theorem ico_split {k : ℕ} (hk : k < 32) : Finset.Ico k 32 = insert k (Finset.Ico (k + 1) 32) := by
  ext i; rw [Finset.mem_insert, Finset.mem_Ico, Finset.mem_Ico]; omega

theorem sum_split (c : Dev nD) {k : ℕ} (hk : k < 32) : (∑ i ∈ Finset.Ico k 32, P c i) = P c k + ∑ i ∈ Finset.Ico (k + 1) 32, P c i :=
  by rw [ico_split hk, Finset.sum_insert (by simp)]

theorem above_D1 (c : Dev nD) {k n : ℕ} (hk : k < 32) (hn : n < 10 * k + 5) : Above n (D1 c k) := above_tally c _ _ hn (by omega)
theorem above_D2 (c : Dev nD) {k n : ℕ} (hk : k < 32) (hn : n < 10 * k + 13) : Above n (D2 c k) := above_tally c _ _ hn (by omega)
theorem above_C1 (c : Dev nD) {k n : ℕ} (hn : n < 10 * k + 12) : Above n (C1 c k) := above_if fun _ => above_tally c _ _ hn (by omega)
theorem above_C2 (c : Dev nD) {k n : ℕ} (hn : n < 10 * k + 16) : Above n (C2 c k) := above_if fun _ => above_tally c _ _ hn (by omega)
theorem above_P (c : Dev nD) {k n : ℕ} (hk : k < 32) (hn : n < 10 * k + 5) : Above n (P c k) :=
  above_add (above_add (above_add (above_D1 _ hk hn) (above_D2 _ hk (by omega))) (above_C1 _ (by omega))) (above_C2 _ (by omega))
theorem above_rest (c : Dev nD) (k : ℕ) {n : ℕ} (hn : n < 10 * k + 5) : Above n (∑ i ∈ Finset.Ico k 32, P c i) :=
  above_sum _ fun i hi => above_P c (Finset.mem_Ico.mp hi).2 (by have := (Finset.mem_Ico.mp hi).1; omega)

end Cert.KernelIdeal.AllReduce

end
-- ==== Proof.Rules.lean ====
/- One step of the kernel's program each: the signals, waits, copies, loads and stores at the schedule's cells. -/
module

public import proofs.«01_k».proof.Proof.Schedule
public import Idealize.ShloMosaic.Lib.VecWindow

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

abbrev 𝒱₀ : Variants := Variants.none

variable (m : (ℓ : Loc nD τ sig) → Buf (Elt F) ℓ)

/-! ## The cells and their invariants -/

/-- A device's cells: the barrier's, funded from its counter; the others, opened when the kernel is entered. -/
def bars : Finset (GSem nD τ sig) := Finset.univ.map ⟨fun c : Dev nD => cell c barS, fun _ _ h => congrArg (fun g : GSem nD τ sig => g.1.1) h⟩
@[inherit_doc bars] def owns6 : Finset (SemLoc sig) := {cr1S, cr2S, s1S, v1S, s2S, v2S}
@[inherit_doc bars] def dorm : Finset (GSem nD τ sig) :=
  (Finset.univ ×ˢ owns6).map ⟨fun x : Dev nD × SemLoc sig => cell x.1 x.2, fun _ _ h => Prod.ext (congrArg (fun g : GSem nD τ sig => g.1.1) h) (congrArg (fun g : GSem nD τ sig => g.2) h)⟩

theorem mem_bars (c : Dev nD) : cell c barS ∈ bars := Finset.mem_map.mpr ⟨c, Finset.mem_univ _, rfl⟩
theorem mem_dorm (c : Dev nD) {sm : SemLoc sig} (h : sm ∈ owns6) : cell c sm ∈ dorm :=
  Finset.mem_map.mpr ⟨(c, sm), Finset.mem_product.mpr ⟨Finset.mem_univ _, h⟩, rfl⟩

/-- The invariants of all cells, at the names the launch chose. -/
def invs (K : GSem nD τ sig → ℕ) : sProp 𝕄 := bigSep (bars ∪ dorm) fun g => cellInv ER (Rd m) (K g) g
instance invs_persistent (K : GSem nD τ sig → ℕ) : BI.Persistent (invs m K) := by unfold invs; infer_instance

theorem invs_bar (K : GSem nD τ sig → ℕ) (c : Dev nD) : invs m K ⊢ cellInv ER (Rd m) (K (cell c barS)) (cell c barS) :=
  bigSep_elim (Finset.mem_union_left _ (mem_bars c))
theorem invs_own (K : GSem nD τ sig → ℕ) (c : Dev nD) {sm : SemLoc sig} (h : sm ∈ owns6) : invs m K ⊢ cellInv ER (Rd m) (K (cell c sm)) (cell c sm) :=
  bigSep_elim (Finset.mem_union_right _ (mem_dorm c h))

/-- What device c owes, whatever it has waited for. -/
abbrev Ow (c : Dev nD) (O : CellTallies nD τ sig ℕ) : sProp 𝕄 := iprop(∃ W, owes (c : Thread nD τ) O W)

/-- What is known throughout: the invariants and the levels. -/
def ctx (K : GSem nD τ sig → ℕ) : sProp 𝕄 := iprop(invs m K ∗ levAts L lv)
instance ctx_persistent (K : GSem nD τ sig → ℕ) : BI.Persistent (ctx m K) := by unfold ctx; infer_instance

variable {m}
variable {K : GSem nD τ sig → ℕ} {α : Type}

/-! ## Signals -/

theorem wp_sig (c n n' : Dev nD) (hn : n = n') {s : Sem sig} {r : ℕ} {d : Bool} {i : ℕ} {O : CellTallies nD τ sig ℕ} (P : sProp 𝕄)
    (hd : d ∈ (Rd (F := F) m).duties (cell n' (.reg s)) r) (ha : amt (.reg s) = 1) (hP : P ⊢ pay m (cell n' (.reg s)) r d)
    (hI : ctx m K ⊢ cellInv ER (Rd m) (K (cell n' (.reg s))) (cell n' (.reg s)))
    {Q : α → sProp 𝕄} {k : PUnit → Prog (TpuEff nD τ sig (Elt F) Λ₀ .tc) α} :
    iprop(ctx m K ∗ Ow c (O + tallyAt (cell n' (.reg s)) i 1) ∗ dutyTok ER (cell n' (.reg s)) r d ∗ P ∗ reached ER (cell n' (.reg s)) r)
      ⊢ iprop((Ow c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n) s 1) k) Q) := by
  subst hn
  iintro ⟨#HI, ⟨%W, HO⟩, Ht, HP, #Hr⟩ Hk
  iapply (Rounds.wp_signal 𝒱₀ ER (Rd m) (c : Thread nD τ) none (dst := (n : Thread nD τ)) (sem := s) (r := r) (d := d) (κ := K (cell n (.reg s)))
      hd ha i O rfl) $$ [HO Ht HP]
  · isplitr; · iapply hI; iexact HI
    isplitl [HO]; · iexact HO
    isplitl [Ht]; · iexact Ht
    isplitl [HP]; · iapply (show P ⊢ (Rd m).payload (cell n (.reg s)) r d from hP); iexact HP
    iexact Hr
  iintro HO
  iapply Hk
  iexists W; iexact HO

/-! ## Waits -/

/-- A wait for the one payment of a cell's round. -/
theorem wp_wait1 (c : Dev nD) {w : TpuEff nD τ sig (Elt F) Λ₀ .tc PUnit} {sm : SemLoc sig} {n : ℕ} (hm : sm ∈ owns6) (hb : sm ≠ barS) {R i : ℕ} (hR : R < rounds sm)
    (hw : ∀ K : PUnit → sProp 𝕄, wpE (defs₀ (F := F)) 𝒱₀ (c : Thread nD τ) none Set.univ w K = waitSpec (c : Thread nD τ) Set.univ sm n K) (hn : amt sm = n)
    {O : CellTallies nD τ sig ℕ} (hi : i < 1000) (hO : Above i O)
    {Q : α → sProp 𝕄} {k : PUnit → Prog (TpuEff nD τ sig (Elt F) Λ₀ .tc) α} :
    iprop(ctx m K ∗ cred (tallyAt (cell c sm) i n) ∗ Ow c O ∗ atPos ER (cell c sm) R ∅ 0)
      ⊢ iprop(((Ow c O ∗ atPos ER (cell c sm) (R + 1) ∅ 0 ∗ reached ER (cell c sm) (R + 1) ∗ pay m (cell c sm) R false)
            -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold ctx
  iintro ⟨⟨#HI, #Hlev⟩, Hc, ⟨%W, HO⟩, Hat⟩ Hk
  iapply (Rounds.wp_wait_rest_token 𝒱₀ ER (Rd m) (c : Thread nD τ) none (κ := K (cell c sm)) hw (Set.mem_univ _) i (O := O) (W := W) (R := R) (m := 0) (T := ∅)
      ((Nat.zero_add _).trans (hn.symm.trans (expect_one m c sm hR hb).symm))) $$ [Hc HO Hat]
  · isplitr; · iapply (invs_own m K c hm); iexact HI
    isplitl [Hc]; · iexact Hc
    isplitl [HO]; · iexact HO
    isplitr; · iapply (mayWait_above c sm hi hO); iexact Hlev
    iexact Hat
  iintro ⟨HO, Hat, #Hr, Hpay⟩
  ihave Hp := (Entails.of_eq (rest_one m c sm hR hb)) $$ Hpay
  iapply Hk
  isplitl [HO]; · iexists _; iexact HO
  isplitl [Hat]; · iexact Hat
  isplitr; · iexact Hr
  iexact Hp

/-- The wait for both partners' barrier signals. -/
theorem wp_waitBar (c : Dev nD) {O : CellTallies nD τ sig ℕ} (hO : Above 1 O) {Q : α → sProp 𝕄} {k : PUnit → Prog (TpuEff nD τ sig (Elt F) Λ₀ .tc) α} :
    iprop(ctx m K ∗ cred (tallyAt (cell c barS) 1 2) ∗ Ow c O ∗ atPos ER (cell c barS) 0 ∅ 0)
      ⊢ iprop(((Ow c O ∗ atPos ER (cell c barS) 1 ∅ 0 ∗ pay m (cell c barS) 0 false ∗ pay m (cell c barS) 0 true)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barrier0 2) k) Q) := by
  unfold ctx
  iintro ⟨⟨#HI, #Hlev⟩, Hc, ⟨%W, HO⟩, Hat⟩ Hk
  iapply (Rounds.wp_wait_rest_token 𝒱₀ ER (Rd m) (c : Thread nD τ) none (κ := K (cell c barS)) (wpE_semWait_eq 𝒱₀ (c : Thread nD τ) none Set.univ)
      (Set.mem_univ _) 1 (O := O) (W := W) (R := 0) (m := 0) (T := ∅) ((Nat.zero_add _).trans (expect_bar m c).symm)) $$ [Hc HO Hat]
  · isplitr; · iapply (invs_bar m K c); iexact HI
    isplitl [Hc]; · iexact Hc
    isplitl [HO]; · iexact HO
    isplitr; · iapply (mayWait_above c barS (by decide) hO); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## Copies -/

theorem own1_intro (c : Dev nD) (M : Memref sig .tc .vmem S128x8192 .f32) {f : Buf (Elt F) (M.view.loc (c : Thread nD τ))} {X : Vec F S128x8192 .f32}
    (h : M.view.read (Elt F) f = X) : (M.view.loc (c : Thread nD τ) ↦[M.view.set]{fullShare} f : sProp 𝕄) ⊢ own1 c M X := by
  unfold own1 owns
  iintro H; iexists f; isplitr
  · ipureintro; exact h
  · iexact H

/-- A copy to another device's slot: pays its landing with the slot written and G, the own send cell with the source. -/
theorem wp_copy (c n n' : Dev nD) (hn : n = n') {src dst : Memref sig .tc .vmem S128x8192 .f32} {X : Vec F S128x8192 .f32}
    {sS sV : DmaSem sig} {r i : ℕ} {O : CellTallies nD τ sig ℕ} (G : sProp 𝕄)
    {hsc : dst.view.ref.isScScratch = false} {hsrc : src.view.WordExact} {hdst : dst.view.WordExact}
    {hsem : DmaTarget.Typed .vmem (.dma sV) (.remote (Dev.tc n) dst (.dma sS) hsc)}
    (hmS : SemLoc.dma sS ∈ owns6) (hmV : SemLoc.dma sV ∈ owns6) (hrS : r < rounds (.dma sS)) (hrV : r < rounds (.dma sV))
    (hN : dst.view.dmaCredit = N)
    (hpS : own1 c src X ⊢ pay m (cell c (.dma sS)) r false) (hpV : iprop(own1 n' dst X ∗ G) ⊢ pay m (cell n' (.dma sV)) r false)
    {Q : α → sProp 𝕄} {k : PUnit → Prog (TpuEff nD τ sig (Elt F) Λ₀ .tc) α} :
    iprop(ctx m K ∗ own1 c src X ∗ anyOf n' dst ∗ G ∗ Ow c (O + tallyAt (cell n' (.dma sV)) i N)
        ∗ dutyTok ER (cell c (.dma sS)) r false ∗ reached ER (cell c (.dma sS)) r
        ∗ dutyTok ER (cell n' (.dma sV)) r false ∗ reached ER (cell n' (.dma sV)) r)
      ⊢ iprop(((cred (tallyAt (cell c (.dma sS)) 0 N) ∗ Ow c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n) dst (.dma sS) hsc) (.dma sV) hsrc hdst hsem) k) Q) := by
  subst hn
  have hbS : SemLoc.dma sS ≠ barS := fun h => by cases h
  have hbV : SemLoc.dma sV ≠ barS := fun h => by cases h
  have amtD (s : DmaSem sig) : amt (.dma s) = N := if_neg (fun h => by rcases h with h | h | h <;> cases h)
  unfold ctx anyOf own1 owns
  iintro ⟨⟨#HI, -⟩, ⟨%fs, %hfs, Hs⟩, ⟨%Y, %fd, -, Hd⟩, HG, ⟨%W, HO⟩, HtS, #HrS, HtV, #HrV⟩ Hk
  iapply (Rounds.wp_send_pointsTo_with 𝒱₀ ER (Rd m) (c : Thread nD τ) none (c' := (n : Thread nD τ)) (src := src) (dst := dst)
      (sS := .dma sS) (sem := .dma sV) (q := fullShare) (fs := fs) (fd := fd) (F := G) (κ₁ := K (cell c (.dma sS))) (κ₂ := K (cell n (.dma sV)))
      (r₁ := r) (r₂ := r) (d₁ := false) (d₂ := false)
      (by rw [duties_one m c _ hrS hbS]; exact Finset.mem_singleton_self _) (by rw [duties_one m n _ hrV hbV]; exact Finset.mem_singleton_self _)
      i 0 N hN (amtD sS) (amtD sV) O rfl (W := W)
      ((own1_intro c src hfs).trans hpS)
      ((sep_mono_left (own1_intro n dst ((View.read_write_univ _ _).trans hfs))).trans hpV)) $$ [Hs Hd HG HO HtS HtV]
  · isplitr; · iapply (invs_own m K c hmS); iexact HI
    isplitr; · iapply (invs_own m K n hmV); iexact HI
    isplitl [Hs]; · iexact Hs
    isplitl [Hd HG]
    · isplitl [Hd]; · iexact Hd
      iexact HG
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

/-! ## Loads and stores of a whole memref -/

theorem wp_loadAll (c : Dev nD) {M : Memref sig .tc .vmem S128x8192 .f32} {X : Vec F S128x8192 .f32} {off : Fin 2 → ℕ}
    {inb : ∀ a, off a + S128x8192.size a ≤ S128x8192.size a} {hl : M.view.LoadsAt (Rect.unit (s := S128x8192) off S128x8192.size inb).toLoadRect}
    {Q : α → sProp 𝕄} {k : Vec F S128x8192 .f32 → Prog (TpuEff nD τ sig (Elt F) Λ₀ .tc) α} :
    own1 c M X ⊢ iprop((own1 c M X -∗ wp frame (wpE (defs₀ (F := F)) 𝒱₀ (c : Thread nD τ) none) Set.univ (k X) Q)
        -∗ wp frame (wpE (defs₀ (F := F)) 𝒱₀ (c : Thread nD τ) none) Set.univ
            (.op (.load M (Rect.unit (s := S128x8192) off S128x8192.size inb).toLoadRect hl) k) Q) := by
  unfold own1 owns
  iintro ⟨%f, %hf, H⟩ Hk
  have hX : M.view.readAt (Elt F) (Rect.unit (s := S128x8192) off S128x8192.size inb).toLoadRect f = X := by
    rw [← hf]; funext x
    show M.view.read (Elt F) f ((Rect.unit (s := S128x8192) off S128x8192.size inb).emb x) = _
    rw [Rect.emb_unit_full]
  iapply (wp_load 𝒱₀ (c : Thread nD τ) none Set.univ (m := M) (S := M.view.set) (M.view.setOn_subset_set _)) $$ H
  iintro H
  rw [hX]
  iapply Hk
  iexists f; isplitr
  · ipureintro; exact hf
  · iexact H

theorem wp_storeAll (c : Dev nD) {M : Memref sig .tc .vmem S128x8192 .f32} {w : Vec F S128x8192 .f32} {off : Fin 2 → ℕ}
    {inb : ∀ a, off a + S128x8192.size a ≤ S128x8192.size a}
    {hx : (M.access (Rect.unit (s := S128x8192) off S128x8192.size inb)).Stores Finset.univ}
    {hm : (Finset.univ : Finset (Rect.unit (s := S128x8192) off S128x8192.size inb).shape.Idx) = Finset.univ ∨ ∀ a, (Rect.unit (s := S128x8192) off S128x8192.size inb).stride a = 1}
    {Q : α → sProp 𝕄} {k : PUnit → Prog (TpuEff nD τ sig (Elt F) Λ₀ .tc) α} :
    anyOf c M ⊢ iprop((own1 c M w -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := S128x8192) off S128x8192.size inb) w Finset.univ hx hm) k) Q) := by
  unfold anyOf own1 owns
  iintro ⟨%Y, %f, -, H⟩ Hk
  iapply (wp_store 𝒱₀ (c : Thread nD τ) none Set.univ (m := M) (r := Rect.unit (s := S128x8192) off S128x8192.size inb) (w := w) (Mk := Finset.univ) (f := f) (S := M.view.set)
    (M.view.set_slice_subset _)) $$ H
  iintro H
  iapply Hk
  iexists _; isplitr
  rotate_left
  · iexact H
  · ipureintro
    funext x
    have h := congrFun (View.read_write_univ (v := M.access (Rect.unit (s := S128x8192) off S128x8192.size inb)) f w) x
    rw [← h]
    show _ = M.view.read (Elt F) _ ((Rect.unit (s := S128x8192) off S128x8192.size inb).emb x)
    rw [Rect.emb_unit_full]

end Cert.KernelIdeal.AllReduce

end
-- ==== Proof.Body.lean ====
/- The kernel's body at a symbolic device: the first point, a middle point, the last. -/
module

public import proofs.«01_k».proof.Proof.Rules

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The grid's conditions at a point -/

theorem cond1_iff : ∀ t : Fin cfg0.N, k0_cond1 (grid0.coords t) = 1#1 ↔ t.val = 0 := by decide
theorem cond2_iff : ∀ t : Fin cfg0.N, k0_cond2 (grid0.coords t) = 1#1 ↔ t.val < 32 := by decide
theorem cond4_iff : ∀ t : Fin cfg0.N, k0_cond4 (grid0.coords t) = 1#1 ↔ 0 < t.val := by decide
theorem cond5_iff : ∀ t : Fin cfg0.N, k0_cond5 (grid0.coords t) = 1#1 ↔ t.val < 32 := by decide
theorem cond6_iff : ∀ t : Fin cfg0.N, k0_cond6 (grid0.coords t) = 1#1 ↔ t.val < 32 := by decide
theorem cond7_iff : ∀ t : Fin cfg0.N, k0_cond7 (grid0.coords t) = 1#1 ↔ t.val < 31 := by decide
theorem pos_iff : ∀ t : Fin cfg0.N,
    Scalar.cmpi .ne (Scalar.extui (Scalar.cmpi .sgt (BitVec.ofNat 32 (grid0.coords t 0).val) 0#32) : BitVec 32) 0#32 = 1#1 ↔ 0 < t.val := by decide

/-! ## The state between points -/

/-- Round k's tokens and credit of device c. -/
def bundle (c : Dev nD) (k : ℕ) : sProp 𝕄 :=
  iprop(dutyTok ER (cell (p1 c) v1S) k false ∗ dutyTok ER (cell c s1S) k false ∗ dutyTok ER (cell (p2 c) v2S) k false ∗ dutyTok ER (cell c s2S) k false
    ∗ dutyTok ER (cell (p1 c) cr1S) k false ∗ dutyTok ER (cell (p2 c) cr2S) k false
    ∗ cred (D1 c k) ∗ cred (D2 c k) ∗ cred (C1 c k) ∗ cred (C2 c k))

/-- The bundles of the rounds from k on. -/
def bundles (c : Dev nD) (k : ℕ) : sProp 𝕄 := bigSep (Finset.Ico k 32) fun i => bundle (F := F) c i

theorem bundles_split (c : Dev nD) {k : ℕ} (hk : k < 32) : (bundles (F := F) c k) = iprop(bundle (F := F) c k ∗ bundles (F := F) c (k + 1)) := by
  unfold bundles
  rw [ico_split hk, bigSep_insert (by simp)]
  rfl

/-- The first landing slot after the last landing in it: kept; before: handed back as a credit. -/
def kept (c : Dev nD) (j : ℕ) : sProp 𝕄 := if j < 31 then iprop(emp) else anyOf (F := F) c r1M

/-- Device c between points j and j + 1: round j's second sum is on its way to the partner. -/
def Mid (c : Dev nD) (j : ℕ) : sProp 𝕄 :=
  iprop(dutyTok ER (cell (p2 c) cr2S) j false ∗ cred (D2 c j) ∗ cred (C1 c j) ∗ cred (C2 c j) ∗ cred (tallyAt (cell c s2S) 0 N)
    ∗ atPos ER (cell c barS) 1 ∅ 0 ∗ atPos ER (cell c s1S) (j + 1) ∅ 0 ∗ atPos ER (cell c v1S) (j + 1) ∅ 0 ∗ atPos ER (cell c s2S) j ∅ 0
    ∗ atPos ER (cell c v2S) j ∅ 0 ∗ atPos ER (cell c cr1S) j ∅ 0 ∗ atPos ER (cell c cr2S) j ∅ 0 ∗ reached ER (cell c s1S) (j + 1)
    ∗ kept (F := F) c j ∗ bundles (F := F) c (j + 1))

variable {m}
variable {K : GSem nD τ sig → ℕ}

/-! ## The operations at the schedule's cells -/

theorem mem_cr1 : cr1S ∈ owns6 := by decide
theorem mem_cr2 : cr2S ∈ owns6 := by decide
theorem mem_s1 : s1S ∈ owns6 := by decide
theorem mem_v1 : v1S ∈ owns6 := by decide
theorem mem_s2 : s2S ∈ owns6 := by decide
theorem mem_v2 : v2S ∈ owns6 := by decide
theorem rounds_cr1 : rounds cr1S = 31 := by decide
theorem rounds_cr2 : rounds cr2S = 31 := by decide
theorem rounds_s1 : rounds s1S = 32 := by decide
theorem rounds_v1 : rounds v1S = 32 := by decide
theorem rounds_s2 : rounds s2S = 32 := by decide
theorem rounds_v2 : rounds v2S = 32 := by decide
theorem ctx_own (c : Dev nD) {sm : SemLoc sig} (h : sm ∈ owns6) : ctx m K ⊢ cellInv ER (Rd m) (K (cell c sm)) (cell c sm) := by
  unfold ctx; iintro ⟨#H, -⟩; iapply (invs_own m K c h); iexact H
theorem ctx_bar (c : Dev nD) : ctx m K ⊢ cellInv ER (Rd m) (K (cell c barS)) (cell c barS) := by
  unfold ctx; iintro ⟨#H, -⟩; iapply (invs_bar m K c); iexact H

/-- A copy into the second landing slot pays as much as one into the first. -/
theorem credit_r2 : (r2M : Memref sig .tc .vmem S128x8192 .f32).view.dmaCredit = N := by decide +kernel

set_option maxHeartbeats 1600000 in
/-- Round k's first copy: chunk k to the first partner's landing slot. -/
theorem copy1 (c n : Dev nD) (hn : n = p1 c) {t : Fin cfg0.N} {k : ℕ} (ht : t.val = k) (hk : k < 32) {O : CellTallies nD τ sig ℕ}
    {hsc : (r1M : Memref sig .tc .vmem S128x8192 .f32).view.ref.isScScratch = false} {hsrc hdst}
    {hsem : DmaTarget.Typed .vmem v1S (.remote (Dev.tc n) r1M s1S hsc)} {α : Type} {Q : α → sProp 𝕄} {kk : PUnit → Prog (TpuEff nD τ sig (Elt F) Λ₀ .tc) α} :
    iprop(ctx m K ∗ own1 c (st0_0 t) (xb m c k) ∗ anyOf (p1 c) r1M ∗ reached ER (cell c cr1S) k ∗ Ow c (O + D1 (p1 c) k)
        ∗ dutyTok ER (cell c s1S) k false ∗ reached ER (cell c s1S) k ∗ dutyTok ER (cell (p1 c) v1S) k false ∗ reached ER (cell (p1 c) v1S) k)
      ⊢ iprop(((cred (tallyAt (cell c s1S) 0 N) ∗ Ow c O) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (st0_0 t) (.remote (Dev.tc n) r1M s1S hsc) v1S hsrc hdst hsem) kk) Q) :=
  wp_copy c n (p1 c) hn (reached ER (cell c cr1S) k) mem_s1 mem_v1 (by rw [rounds_s1]; exact hk) (by rw [rounds_v1]; exact hk) rfl
    (Entails.of_eq (by rw [pay_s1, ← ht, point_val]))
    (Entails.of_eq (by rw [pay_v1, p1_p1]))

set_option maxHeartbeats 1600000 in
/-- Round k's second copy: the first step's sum to the second partner's landing slot. -/
theorem copy2 (c n : Dev nD) (hn : n = p2 c) {k : ℕ} (hk : k < 32) {O : CellTallies nD τ sig ℕ}
    {hsc : (r2M : Memref sig .tc .vmem S128x8192 .f32).view.ref.isScScratch = false} {hsrc hdst}
    {hsem : DmaTarget.Typed .vmem v2S (.remote (Dev.tc n) r2M s2S hsc)} {α : Type} {Q : α → sProp 𝕄} {kk : PUnit → Prog (TpuEff nD τ sig (Elt F) Λ₀ .tc) α} :
    iprop(ctx m K ∗ own1 c t2M (sum1 m c k) ∗ anyOf (p2 c) r2M ∗ reached ER (cell c cr2S) k ∗ Ow c (O + D2 (p2 c) k)
        ∗ dutyTok ER (cell c s2S) k false ∗ reached ER (cell c s2S) k ∗ dutyTok ER (cell (p2 c) v2S) k false ∗ reached ER (cell (p2 c) v2S) k)
      ⊢ iprop(((cred (tallyAt (cell c s2S) 0 N) ∗ Ow c O) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma t2M (.remote (Dev.tc n) r2M s2S hsc) v2S hsrc hdst hsem) kk) Q) :=
  wp_copy c n (p2 c) hn (reached ER (cell c cr2S) k) mem_s2 mem_v2 (by rw [rounds_s2]; exact hk) (by rw [rounds_v2]; exact hk) credit_r2
    (Entails.of_eq (by rw [pay_s2]))
    (Entails.of_eq (by rw [pay_v2, p2_p2]))

/-- The wait for the end of round k's first copy at its source: the chunk comes back. -/
theorem waitS1 (c : Dev nD) {t : Fin cfg0.N} {k : ℕ} (ht : t.val = k) (hk : k < 32) {O : CellTallies nD τ sig ℕ} (hO : Above 0 O)
    {A : Memref sig .tc .vmem S128x8192 .f32} {hA hB} {α : Type} {Q : α → sProp 𝕄} {kk : PUnit → Prog (TpuEff nD τ sig (Elt F) Λ₀ .tc) α} :
    iprop(ctx m K ∗ cred (tallyAt (cell c s1S) 0 N) ∗ Ow c O ∗ atPos ER (cell c s1S) k ∅ 0)
      ⊢ iprop(((Ow c O ∗ atPos ER (cell c s1S) (k + 1) ∅ 0 ∗ reached ER (cell c s1S) (k + 1) ∗ own1 c (st0_0 t) (xb m c k))
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (4 : DmaSem sig) A (st0_0 t) hA hB) kk) Q) := by
  have h := wp_wait1 (m := m) (K := K) (Q := Q) (k := kk) (w := .waitDma2 (4 : DmaSem sig) A (st0_0 t) hA hB) c mem_s1 (by decide) (R := k) (i := 0) (by rw [rounds_s1]; exact hk)
    (fun _ => rfl) rfl (by decide) hO
  rw [pay_s1, ← ht, point_val, ht] at h
  exact h

/-- The same of the second copy: the first step's sum comes back. -/
theorem waitS2 (c : Dev nD) {k : ℕ} (hk : k < 32) {O : CellTallies nD τ sig ℕ} (hO : Above 0 O)
    {A : Memref sig .tc .vmem S128x8192 .f32} {hA hB} {α : Type} {Q : α → sProp 𝕄} {kk : PUnit → Prog (TpuEff nD τ sig (Elt F) Λ₀ .tc) α} :
    iprop(ctx m K ∗ cred (tallyAt (cell c s2S) 0 N) ∗ Ow c O ∗ atPos ER (cell c s2S) k ∅ 0)
      ⊢ iprop(((Ow c O ∗ atPos ER (cell c s2S) (k + 1) ∅ 0 ∗ reached ER (cell c s2S) (k + 1) ∗ own1 c t2M (sum1 m c k))
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (6 : DmaSem sig) A t2M hA hB) kk) Q) := by
  have h := wp_wait1 (m := m) (K := K) (Q := Q) (k := kk) (w := .waitDma2 (6 : DmaSem sig) A t2M hA hB) c mem_s2 (by decide) (R := k) (i := 0) (by rw [rounds_s2]; exact hk)
    (fun _ => rfl) rfl (by decide) hO
  rw [pay_s2] at h
  exact h

/-- The wait for round k's first landing: the first partner's chunk, in the slot. -/
theorem waitV1 (c : Dev nD) {k : ℕ} (hk : k < 32) {O : CellTallies nD τ sig ℕ} (hO : Above (10 * k + 5) O)
    {A : Memref sig .tc .vmem S128x8192 .f32} {hA hB} {α : Type} {Q : α → sProp 𝕄} {kk : PUnit → Prog (TpuEff nD τ sig (Elt F) Λ₀ .tc) α} :
    iprop(ctx m K ∗ cred (D1 c k) ∗ Ow c O ∗ atPos ER (cell c v1S) k ∅ 0)
      ⊢ iprop(((Ow c O ∗ atPos ER (cell c v1S) (k + 1) ∅ 0 ∗ reached ER (cell c v1S) (k + 1) ∗ own1 c r1M (xb m (p1 c) k) ∗ reached ER (cell (p1 c) cr1S) k)
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (5 : DmaSem sig) A r1M hA hB) kk) Q) := by
  have h := wp_wait1 (m := m) (K := K) (Q := Q) (k := kk) (w := .waitDma2 (5 : DmaSem sig) A r1M hA hB) c mem_v1 (by decide) (R := k) (i := 10 * k + 5) (by rw [rounds_v1]; exact hk)
    (fun _ => rfl) rfl (by omega) hO
  rw [pay_v1] at h
  exact h

/-- The same of the second landing: the second partner's sum. -/
theorem waitV2 (c : Dev nD) {k : ℕ} (hk : k < 32) {O : CellTallies nD τ sig ℕ} (hO : Above (10 * k + 13) O)
    {A : Memref sig .tc .vmem S128x8192 .f32} {hA hB} {α : Type} {Q : α → sProp 𝕄} {kk : PUnit → Prog (TpuEff nD τ sig (Elt F) Λ₀ .tc) α} :
    iprop(ctx m K ∗ cred (D2 c k) ∗ Ow c O ∗ atPos ER (cell c v2S) k ∅ 0)
      ⊢ iprop(((Ow c O ∗ atPos ER (cell c v2S) (k + 1) ∅ 0 ∗ reached ER (cell c v2S) (k + 1) ∗ own1 c r2M (sum1 m (p2 c) k) ∗ reached ER (cell (p2 c) cr2S) k)
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 (7 : DmaSem sig) A r2M hA hB) kk) Q) := by
  have h := wp_wait1 (m := m) (K := K) (Q := Q) (k := kk) (w := .waitDma2 (7 : DmaSem sig) A r2M hA hB) c mem_v2 (by decide) (R := k) (i := 10 * k + 13) (by rw [rounds_v2]; exact hk)
    (fun _ => rfl) rfl (by omega) hO
  rw [pay_v2] at h
  exact h

/-- The wait for the first credit of round j: the first partner's landing slot, for round j + 1. -/
theorem waitC1 (c : Dev nD) {j : ℕ} (hj : j < 31) {O : CellTallies nD τ sig ℕ} (hO : Above (10 * j + 12) O)
    {α : Type} {Q : α → sProp 𝕄} {kk : PUnit → Prog (TpuEff nD τ sig (Elt F) Λ₀ .tc) α} :
    iprop(ctx m K ∗ cred (C1 c j) ∗ Ow c O ∗ atPos ER (cell c cr1S) j ∅ 0)
      ⊢ iprop(((Ow c O ∗ atPos ER (cell c cr1S) (j + 1) ∅ 0 ∗ reached ER (cell c cr1S) (j + 1) ∗ anyOf (p1 c) r1M ∗ reached ER (cell (p1 c) v1S) (j + 1))
            -∗ wp frame (wpE (defs₀ (F := F)) 𝒱₀ (c : Thread nD τ) none) Set.univ (kk ⟨⟩) Q)
        -∗ wp frame (wpE (defs₀ (F := F)) 𝒱₀ (c : Thread nD τ) none) Set.univ (.op (.semWait (0 : Sem sig) 1) kk) Q) := by
  have h := wp_wait1 (m := m) (K := K) (Q := Q) (k := kk) (w := .semWait (0 : Sem sig) 1) c mem_cr1 (by decide) (R := j) (i := 10 * j + 12) (by rw [rounds_cr1]; exact hj)
    (wpE_semWait_eq 𝒱₀ (c : Thread nD τ) none Set.univ) rfl (by omega) hO
  rw [pay_cr1] at h
  unfold C1
  rw [if_pos hj]
  exact h

/-- The same of the second credit: the second partner's slot. -/
theorem waitC2 (c : Dev nD) {j : ℕ} (hj : j < 31) {O : CellTallies nD τ sig ℕ} (hO : Above (10 * j + 16) O)
    {α : Type} {Q : α → sProp 𝕄} {kk : PUnit → Prog (TpuEff nD τ sig (Elt F) Λ₀ .tc) α} :
    iprop(ctx m K ∗ cred (C2 c j) ∗ Ow c O ∗ atPos ER (cell c cr2S) j ∅ 0)
      ⊢ iprop(((Ow c O ∗ atPos ER (cell c cr2S) (j + 1) ∅ 0 ∗ reached ER (cell c cr2S) (j + 1) ∗ anyOf (p2 c) r2M ∗ reached ER (cell (p2 c) v2S) (j + 1))
            -∗ wp frame (wpE (defs₀ (F := F)) 𝒱₀ (c : Thread nD τ) none) Set.univ (kk ⟨⟩) Q)
        -∗ wp frame (wpE (defs₀ (F := F)) 𝒱₀ (c : Thread nD τ) none) Set.univ (.op (.semWait (1 : Sem sig) 1) kk) Q) := by
  have h := wp_wait1 (m := m) (K := K) (Q := Q) (k := kk) (w := .semWait (1 : Sem sig) 1) c mem_cr2 (by decide) (R := j) (i := 10 * j + 16) (by rw [rounds_cr2]; exact hj)
    (wpE_semWait_eq 𝒱₀ (c : Thread nD τ) none Set.univ) rfl (by omega) hO
  rw [pay_cr2] at h
  unfold C2
  rw [if_pos hj]
  exact h

/-- The first credit of round j to the first partner: the own landing slot, read. -/
theorem sigC1 (c n : Dev nD) (hn : n = p1 c) {j : ℕ} (hj : j < 31) {O : CellTallies nD τ sig ℕ}
    {α : Type} {Q : α → sProp 𝕄} {kk : PUnit → Prog (TpuEff nD τ sig (Elt F) Λ₀ .tc) α} :
    iprop(ctx m K ∗ Ow c (O + C1 (p1 c) j) ∗ dutyTok ER (cell (p1 c) cr1S) j false ∗ (anyOf c r1M ∗ reached ER (cell c v1S) (j + 1)) ∗ reached ER (cell (p1 c) cr1S) j)
      ⊢ iprop((Ow c O -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (Dev.tc n) (0 : Sem sig) 1) kk) Q) := by
  unfold C1
  rw [if_pos hj]
  exact wp_sig c n (p1 c) hn _ (by rw [duties_one m _ cr1S (by rw [rounds_cr1]; exact hj) (by decide)]; exact Finset.mem_singleton_self _) rfl
    (Entails.of_eq (by rw [pay_cr1, p1_p1])) (ctx_own _ mem_cr1)

/-- The second credit of round j to the second partner. -/
theorem sigC2 (c n : Dev nD) (hn : n = p2 c) {j : ℕ} (hj : j < 31) {O : CellTallies nD τ sig ℕ}
    {α : Type} {Q : α → sProp 𝕄} {kk : PUnit → Prog (TpuEff nD τ sig (Elt F) Λ₀ .tc) α} :
    iprop(ctx m K ∗ Ow c (O + C2 (p2 c) j) ∗ dutyTok ER (cell (p2 c) cr2S) j false ∗ (anyOf c r2M ∗ reached ER (cell c v2S) (j + 1)) ∗ reached ER (cell (p2 c) cr2S) j)
      ⊢ iprop((Ow c O -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (Dev.tc n) (1 : Sem sig) 1) kk) Q) := by
  unfold C2
  rw [if_pos hj]
  exact wp_sig c n (p2 c) hn _ (by rw [duties_one m _ cr2S (by rw [rounds_cr2]; exact hj) (by decide)]; exact Finset.mem_singleton_self _) rfl
    (Entails.of_eq (by rw [pay_cr2, p2_p2])) (ctx_own _ mem_cr2)

end Cert.KernelIdeal.AllReduce
-- ==== Proof.Step.lean ====
/- The kernel's body at a symbolic device: the first point, a middle point, the last. -/
module

public import proofs.«01_k».proof.Proof.Body

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable {m : (ℓ : Loc nD τ sig) → Buf (Elt F) ℓ}

variable {K : GSem nD τ sig → ℕ}

theorem sem7 : SemArray.sem cc0_scratch7 = (0 : Sem sig) := rfl
theorem sem8 : SemArray.sem cc0_scratch8 = (1 : Sem sig) := rfl
theorem sem3 : SemArray.sem cc0_scratch3 = (4 : DmaSem sig) := rfl
theorem sem4 : SemArray.sem cc0_scratch4 = (5 : DmaSem sig) := rfl
theorem sem5 : SemArray.sem cc0_scratch5 = (6 : DmaSem sig) := rfl
theorem sem6 : SemArray.sem cc0_scratch6 = (7 : DmaSem sig) := rfl

/-- What is owed at a point, in the order in which it is paid. -/
theorem order_mid {M : Type} [AddCommMonoid M] (x d1 d2 c1 c2 s : M) : x + (d1 + d2 + c1 + c2 + s) = s + c2 + d2 + c1 + x + d1 := by ac_rfl

set_option maxHeartbeats 1600000 in
/-- The end of a middle point's program: the second partner's slot for the next round, then the second copy into it. -/
theorem send2 (c n : Dev nD) (hn : n = p2 c) {j : ℕ} (hj : j < 31) {O : CellTallies nD τ sig ℕ} (hO : Above (10 * j + 16) (O + D2 (p2 c) (j + 1)))
    {hsc : (r2M : Memref sig .tc .vmem S128x8192 .f32).view.ref.isScScratch = false} {hsrc hdst}
    {hsem : DmaTarget.Typed .vmem v2S (.remote (Dev.tc n) r2M s2S hsc)} {α : Type} {Q : α → sProp 𝕄} {kk : PUnit → Prog (TpuEff nD τ sig (Elt F) Λ₀ .tc) α} :
    iprop(ctx m K ∗ cred (C2 c j) ∗ Ow c (O + D2 (p2 c) (j + 1)) ∗ atPos ER (cell c cr2S) j ∅ 0 ∗ own1 c t2M (sum1 m c (j + 1))
        ∗ dutyTok ER (cell c s2S) (j + 1) false ∗ reached ER (cell c s2S) (j + 1) ∗ dutyTok ER (cell (p2 c) v2S) (j + 1) false)
      ⊢ iprop(((cred (tallyAt (cell c s2S) 0 N) ∗ Ow c O ∗ atPos ER (cell c cr2S) (j + 1) ∅ 0)
            -∗ wp frame (wpE (defs₀ (F := F)) 𝒱₀ (c : Thread nD τ) none) Set.univ (kk ⟨⟩) Q)
        -∗ wp frame (wpE (defs₀ (F := F)) 𝒱₀ (c : Thread nD τ) none) Set.univ
            (.op (.semWait (1 : Sem sig) 1) fun _ => .op (.enqueueDma t2M (.remote (Dev.tc n) r2M s2S hsc) v2S hsrc hdst hsem) kk) Q) := by
  iintro ⟨#Hc, Hcr, HO, Ha, Ht, HtS, #HrS, HtV⟩ Hk
  iapply (waitC2 (j := j) c hj hO) $$ [Hcr HO Ha]
  · isplitr; · iexact Hc
    isplitl [Hcr]; · iexact Hcr
    isplitl [HO]; · iexact HO
    iexact Ha
  iintro ⟨HO, Ha, #Hra, Hd, #HrV⟩
  iapply (copy2 (k := j + 1) (O := O) c n hn (by omega)) $$ [HO Ht HtS HtV Hd]
  · isplitr; · iexact Hc
    isplitl [Ht]; · iexact Ht
    isplitl [Hd]; · iexact Hd
    isplitr; · iexact Hra
    isplitl [HO]; · iexact HO
    isplitl [HtS]; · iexact HtS
    isplitr; · iexact HrS
    isplitl [HtV]; · iexact HtV
    iexact HrV
  iintro ⟨Hcs, HO⟩
  iapply Hk
  isplitl [Hcs]; · iexact Hcs
  isplitl [HO]; · iexact HO
  iexact Ha

set_option maxHeartbeats 1600000 in
/-- The body at a middle point j + 1: round j ends, its result is written; round j + 1 begins. -/
theorem step_mid (c : Dev nD) (t : Fin cfg0.N) (j : ℕ) (ht : t.val = j + 1) (hj : j < 31) :
    iprop(ctx m K ∗ Mid c j ∗ Ow c (due c (j + 1)) ∗ own1 c (st0_0 t) (xb m c (j + 1)) ∗ anyOf c (st0_1 t))
      ⊢ wp frame (wpE (defs₀ (F := F)) 𝒱₀ (c : Thread nD τ) none) Set.univ (bodyAt0 (F := F) t) (fun _ =>
          iprop(Mid c (j + 1) ∗ Ow c (due c (j + 2)) ∗ own1 c (st0_0 t) (xb m c (j + 1)) ∗ own1 c (st0_1 t) (out m c j))) := by
  have h1 : ¬ k0_cond1 (grid0.coords t) = 1#1 := fun h => by have := (cond1_iff t).1 h; omega
  have h2 : k0_cond2 (grid0.coords t) = 1#1 := (cond2_iff t).2 (by omega)
  have h3 := (pos_iff t).2 (by omega)
  have h4 : k0_cond4 (grid0.coords t) = 1#1 := (cond4_iff t).2 (by omega)
  have h5 : k0_cond5 (grid0.coords t) = 1#1 := (cond5_iff t).2 (by omega)
  have h6 : k0_cond6 (grid0.coords t) = 1#1 := (cond6_iff t).2 (by omega)
  unfold bodyAt0
  simp only [cc0__ar_body_eq_skeleton]
  unfold cc0__ar_body_skel
  simp only [semSignalWord, semWaitWord, Prog.lift, Prog.bind_op, Prog.bind_ret, Prog.pure_eq_ret, wp_deviceId, dif_neg h1, dif_pos h2, dif_pos h3, dif_pos h4, dif_pos h5, dif_pos h6,
    sem3, sem4, sem5, sem6, sem7, sem8]
  have hk : j + 1 < 32 := by omega
  have hS : ∀ n, n < 10 * (j + 1 + 1) + 5 → Above n (∑ i ∈ Finset.Ico (j + 1 + 1) 32, P c i) := fun n h => above_rest c (j + 1 + 1) (by omega)
  have eO : due c (j + 1) = (((((∑ i ∈ Finset.Ico (j + 1 + 1) 32, P c i) + C2 (p2 c) (j + 1)) + D2 (p2 c) (j + 1)) + C1 (p1 c) (j + 1)) + C2 (p2 c) j) + D1 (p1 c) (j + 1) := by
    refine Eq.trans ?_ (order_mid _ _ _ _ _ _)
    exact congrArg (C2 (p2 c) j + ·) (sum_split c hk)
  have eO' : due c (j + 2) = (∑ i ∈ Finset.Ico (j + 1 + 1) 32, P c i) + C2 (p2 c) (j + 1) := add_comm (C2 (p2 c) (j + 1)) _
  rw [eO, eO']
  generalize (∑ i ∈ Finset.Ico (j + 1 + 1) 32, P c i) = S at hS ⊢
  unfold Mid
  rw [bundles_split c hk, show kept (F := F) c j = iprop(emp) from if_pos hj]
  unfold bundle
  have a3 : ∀ n, n < 10 * j + 22 → Above n (S + C2 (p2 c) (j + 1) + D2 (p2 c) (j + 1) + C1 (p1 c) (j + 1)) := fun n h =>
    above_add (above_add (above_add (hS n (by omega)) (above_C2 _ (by omega))) (above_D2 _ hk (by omega))) (above_C1 _ (by omega))
  have a4 : ∀ n, n < 10 * j + 15 → Above n (S + C2 (p2 c) (j + 1) + D2 (p2 c) (j + 1) + C1 (p1 c) (j + 1) + C2 (p2 c) j) := fun n h =>
    above_add (a3 n (by omega)) (above_C2 _ (by omega))
  have a5 : ∀ n, n < 10 * j + 15 → Above n (S + C2 (p2 c) (j + 1) + D2 (p2 c) (j + 1) + C1 (p1 c) (j + 1) + C2 (p2 c) j + D1 (p1 c) (j + 1)) := fun n h =>
    above_add (a4 n h) (above_D1 _ hk (by omega))
  have hO2 : Above (10 * j + 16) (S + C2 (p2 c) (j + 1) + D2 (p2 c) (j + 1)) :=
    above_add (above_add (hS _ (by omega)) (above_C2 _ (by omega))) (above_D2 _ hk (by omega))
  iintro ⟨#Hc, ⟨Tcr2, KD2, KC1, KC2, Ks2, Abar, As1, Av1, As2, Av2, Acr1, Acr2, #Rs1, -, ⟨Tv1, Ts1, Tv2, Ts2, Tcr1, Tcr2', KD1', KD2', KC1', KC2'⟩, HB⟩, HO, Hx, ⟨%Y, Hy⟩⟩
  iapply (waitC1 (j := j) c hj (a5 _ (by omega))) $$ [KC1 HO Acr1]
  · isplitr; · iexact Hc
    isplitl [KC1]; · iexact KC1
    isplitl [HO]; · iexact HO
    iexact Acr1
  iintro ⟨HO, Acr1, #Rcr1, Hd, #Rv1⟩
  iapply (copy1 (k := j + 1) c _ (dev3_eq c _) ht hk) $$ [Hx Hd HO Ts1 Tv1]
  · isplitr; · iexact Hc
    isplitl [Hx]; · iexact Hx
    isplitl [Hd]; · iexact Hd
    isplitr; · iexact Rcr1
    isplitl [HO]; · iexact HO
    isplitl [Ts1]; · iexact Ts1
    isplitr; · iexact Rs1
    isplitl [Tv1]; · iexact Tv1
    iexact Rv1
  iintro ⟨Ks1, HO⟩
  iapply (waitS2 (k := j) c (by omega) (a4 _ (by omega))) $$ [Ks2 HO As2]
  · isplitr; · iexact Hc
    isplitl [Ks2]; · iexact Ks2
    isplitl [HO]; · iexact HO
    iexact As2
  iintro ⟨HO, As2, #Rs2, Ht⟩
  iapply (waitV2 (k := j) c (by omega) (a4 _ (by omega))) $$ [KD2 HO Av2]
  · isplitr; · iexact Hc
    isplitl [KD2]; · iexact KD2
    isplitl [HO]; · iexact HO
    iexact Av2
  iintro ⟨HO, Av2, #Rv2, Hr2, #Rcr2⟩
  iapply (wp_loadAll c) $$ Ht
  iintro Ht
  iapply (wp_loadAll c) $$ Hr2
  iintro Hr2
  iapply (wp_loadAll c) $$ Hy
  iintro Hy
  iapply (wp_storeAll c) $$ [Hy]
  · unfold anyOf; iexists Y; iexact Hy
  iintro Hy
  iapply (sigC2 (j := j) c _ (dev4_eq c _) hj) $$ [HO Tcr2 Hr2]
  · isplitr; · iexact Hc
    isplitl [HO]; · iexact HO
    isplitl [Tcr2]; · iexact Tcr2
    isplitl [Hr2]
    · isplitl [Hr2]
      · unfold anyOf; iexists _; iexact Hr2
      iexact Rv2
    iexact Rcr2
  iintro HO
  iapply (waitS1 (k := j + 1) c ht hk (a3 _ (by omega))) $$ [Ks1 HO As1]
  · isplitr; · iexact Hc
    isplitl [Ks1]; · iexact Ks1
    isplitl [HO]; · iexact HO
    iexact As1
  iintro ⟨HO, As1, #Rs1', Hx⟩
  iapply (waitV1 (k := j + 1) c hk (a3 _ (by omega))) $$ [KD1' HO Av1]
  · isplitr; · iexact Hc
    isplitl [KD1']; · iexact KD1'
    isplitl [HO]; · iexact HO
    iexact Av1
  iintro ⟨HO, Av1, #Rv1', Hr1, #Rcr1'⟩
  iapply (wp_loadAll c) $$ Hx
  iintro Hx
  iapply (wp_loadAll c) $$ Hr1
  iintro Hr1
  iapply (wp_loadAll c) $$ Ht
  iintro Ht
  iapply (wp_storeAll c) $$ [Ht]
  · unfold anyOf; iexists _; iexact Ht
  iintro Ht
  by_cases h7 : k0_cond7 (grid0.coords t) = 1#1
  · have hk1 : j + 1 < 31 := by have := (cond7_iff t).1 h7; omega
    rw [dif_pos h7]
    iapply (sigC1 (j := j + 1) c _ (dev5_eq c _) hk1) $$ [HO Tcr1 Hr1]
    · isplitr; · iexact Hc
      isplitl [HO]; · iexact HO
      isplitl [Tcr1]; · iexact Tcr1
      isplitl [Hr1]
      · isplitl [Hr1]
        · unfold anyOf; iexists _; iexact Hr1
        iexact Rv1'
      iexact Rcr1'
    iintro HO
    iapply (send2 (j := j) c _ (dev6_eq c _) hj hO2) $$ [KC2 HO Acr2 Ht Ts2 Tv2]
    · isplitr; · iexact Hc
      isplitl [KC2]; · iexact KC2
      isplitl [HO]; · iexact HO
      isplitl [Acr2]; · iexact Acr2
      isplitl [Ht]; · iexact Ht
      isplitl [Ts2]; · iexact Ts2
      isplitr; · iexact Rs2
      iexact Tv2
    iintro ⟨Ks2, HO, Acr2⟩
    rw [show kept (F := F) c (j + 1) = iprop(emp) from if_pos hk1]
    rw [wp_ret]; imodintro
    isplitl [Tcr2' KD2' KC1' KC2' Ks2 Abar As1 Av1 As2 Av2 Acr1 Acr2 HB]
    · isplitl [Tcr2']; · iexact Tcr2'
      isplitl [KD2']; · iexact KD2'
      isplitl [KC1']; · iexact KC1'
      isplitl [KC2']; · iexact KC2'
      isplitl [Ks2]; · iexact Ks2
      isplitl [Abar]; · iexact Abar
      isplitl [As1]; · iexact As1
      isplitl [Av1]; · iexact Av1
      isplitl [As2]; · iexact As2
      isplitl [Av2]; · iexact Av2
      isplitl [Acr1]; · iexact Acr1
      isplitl [Acr2]; · iexact Acr2
      isplitr; · iexact Rs1'
      isplitr; · iempintro
      iexact HB
    isplitl [HO]; · iexact HO
    isplitl [Hx]; · iexact Hx
    iexact Hy
  · have hk1 : ¬ j + 1 < 31 := fun h => h7 ((cond7_iff t).2 (by omega))
    rw [dif_neg h7, show C1 (p1 c) (j + 1) = 0 from if_neg hk1, add_zero]
    iapply (send2 (j := j) c _ (dev6_eq c _) hj hO2) $$ [KC2 HO Acr2 Ht Ts2 Tv2]
    · isplitr; · iexact Hc
      isplitl [KC2]; · iexact KC2
      isplitl [HO]; · iexact HO
      isplitl [Acr2]; · iexact Acr2
      isplitl [Ht]; · iexact Ht
      isplitl [Ts2]; · iexact Ts2
      isplitr; · iexact Rs2
      iexact Tv2
    iintro ⟨Ks2, HO, Acr2⟩
    rw [show kept (F := F) c (j + 1) = anyOf c r1M from if_neg hk1]
    rw [wp_ret]; imodintro
    isplitl [Tcr2' KD2' KC1' KC2' Ks2 Abar As1 Av1 As2 Av2 Acr1 Acr2 HB Hr1]
    · isplitl [Tcr2']; · iexact Tcr2'
      isplitl [KD2']; · iexact KD2'
      isplitl [KC1']; · iexact KC1'
      isplitl [KC2']; · iexact KC2'
      isplitl [Ks2]; · iexact Ks2
      isplitl [Abar]; · iexact Abar
      isplitl [As1]; · iexact As1
      isplitl [Av1]; · iexact Av1
      isplitl [As2]; · iexact As2
      isplitl [Av2]; · iexact Av2
      isplitl [Acr1]; · iexact Acr1
      isplitl [Acr2]; · iexact Acr2
      isplitr; · iexact Rs1'
      isplitl [Hr1]
      · unfold anyOf; iexists _; iexact Hr1
      iexact HB
    isplitl [HO]; · iexact HO
    isplitl [Hx]; · iexact Hx
    iexact Hy

/-- Device c before the first point: the tokens of the two barrier signals, everything at its start. -/
def First (c : Dev nD) : sProp 𝕄 :=
  iprop(dutyTok ER (cell (p1 c) barS) 0 false ∗ dutyTok ER (cell (p2 c) barS) 0 true ∗ cred (tallyAt (cell c barS) 1 2)
    ∗ (atPos ER (cell c barS) 0 ∅ 0 ∗ atPos ER (cell c s1S) 0 ∅ 0 ∗ atPos ER (cell c v1S) 0 ∅ 0 ∗ atPos ER (cell c s2S) 0 ∅ 0
    ∗ atPos ER (cell c v2S) 0 ∅ 0 ∗ atPos ER (cell c cr1S) 0 ∅ 0 ∗ atPos ER (cell c cr2S) 0 ∅ 0)
    ∗ (reached ER (cell (p1 c) barS) 0 ∗ reached ER (cell (p2 c) barS) 0)
    ∗ (reached ER (cell c s1S) 0 ∗ reached ER (cell c v1S) 0 ∗ reached ER (cell c s2S) 0
    ∗ reached ER (cell c v2S) 0 ∗ reached ER (cell c cr1S) 0 ∗ reached ER (cell c cr2S) 0)
    ∗ anyOf (F := F) c r1M ∗ anyOf (F := F) c r2M ∗ anyOf (F := F) c t2M ∗ bundles (F := F) c 0)

theorem order_first {M : Type} [AddCommMonoid M] (d1 d2 c1 c2 s a b : M) : d1 + d2 + c1 + c2 + s + a + b = s + c2 + d2 + c1 + d1 + a + b := by ac_rfl

set_option maxHeartbeats 1600000 in
/-- The body at the first point: the two partners are told that the slots are free; round 0 begins. -/
theorem step_first (c : Dev nD) (t : Fin cfg0.N) (ht : t.val = 0) :
    iprop(ctx m K ∗ First c ∗ Ow c (due c 0) ∗ own1 c (st0_0 t) (xb m c 0))
      ⊢ wp frame (wpE (defs₀ (F := F)) 𝒱₀ (c : Thread nD τ) none) Set.univ (bodyAt0 (F := F) t) (fun _ =>
          iprop(Mid c 0 ∗ Ow c (due c 1) ∗ own1 c (st0_0 t) (xb m c 0))) := by
  have h1 : k0_cond1 (grid0.coords t) = 1#1 := (cond1_iff t).2 ht
  have h2 : k0_cond2 (grid0.coords t) = 1#1 := (cond2_iff t).2 (by omega)
  have h3 := mt (pos_iff t).1 (by omega)
  have h4 : ¬ k0_cond4 (grid0.coords t) = 1#1 := fun h => absurd ((cond4_iff t).1 h) (by omega)
  have h5 : k0_cond5 (grid0.coords t) = 1#1 := (cond5_iff t).2 (by omega)
  have h6 : k0_cond6 (grid0.coords t) = 1#1 := (cond6_iff t).2 (by omega)
  have h7 : k0_cond7 (grid0.coords t) = 1#1 := (cond7_iff t).2 (by omega)
  unfold bodyAt0
  simp only [cc0__ar_body_eq_skeleton]
  unfold cc0__ar_body_skel
  simp only [semSignalWord, semWaitWord, Prog.lift, Prog.bind_op, Prog.bind_ret, Prog.pure_eq_ret, wp_deviceId, dif_pos h1, dif_pos h2, dif_neg h3, dif_neg h4, dif_pos h5, dif_pos h6, dif_pos h7,
    sem3, sem4, sem5, sem6, sem7, sem8]
  have hk : 0 < 32 := by omega
  have hS : ∀ n, n < 15 → Above n (∑ i ∈ Finset.Ico 1 32, P c i) := fun n h => above_rest c 1 (by omega)
  have eO : due c 0 = ((((((∑ i ∈ Finset.Ico 1 32, P c i) + C2 (p2 c) 0) + D2 (p2 c) 0) + C1 (p1 c) 0) + D1 (p1 c) 0) + tallyAt (cell (p2 c) barS) 1 1) + tallyAt (cell (p1 c) barS) 1 1 := by
    refine Eq.trans ?_ (order_first _ _ _ _ _ _ _)
    exact congrArg (fun x => x + tallyAt (cell (p2 c) barS) 1 1 + tallyAt (cell (p1 c) barS) 1 1) (sum_split c hk)
  have eO' : due c 1 = (∑ i ∈ Finset.Ico 1 32, P c i) + C2 (p2 c) 0 := add_comm (C2 (p2 c) 0) _
  rw [eO, eO']
  generalize (∑ i ∈ Finset.Ico 1 32, P c i) = S at hS ⊢
  unfold First Mid
  rw [bundles_split c hk, show kept (F := F) c 0 = iprop(emp) from if_pos (by decide)]
  unfold bundle
  have a3 : ∀ n, n < 12 → Above n (S + C2 (p2 c) 0 + D2 (p2 c) 0 + C1 (p1 c) 0) := fun n h =>
    above_add (above_add (above_add (hS n (by omega)) (above_C2 _ (by omega))) (above_D2 _ hk (by omega))) (above_C1 _ (by omega))
  have a4 : ∀ n, n < 5 → Above n (S + C2 (p2 c) 0 + D2 (p2 c) 0 + C1 (p1 c) 0 + D1 (p1 c) 0) := fun n h =>
    above_add (a3 n (by omega)) (above_D1 _ hk (by omega))
  iintro ⟨#Hc, ⟨Tb1, Tb2, Kb, ⟨Abar, As1, Av1, As2, Av2, Acr1, Acr2⟩, ⟨#Rb1, #Rb2⟩, ⟨#Rs1, #Rv1, #Rs2, #Rv2, #Rcr1, #Rcr2⟩, Hr1, Hr2, Ht, ⟨Tv1, Ts1, Tv2, Ts2, Tcr1, Tcr2, KD1, KD2, KC1, KC2⟩, HB⟩, HO, Hx⟩
  iapply (wp_sig c _ (p1 c) (dev1_eq c _) (s := barrier0) (r := 0) (d := false) (i := 1) (m := m) (K := K) iprop(anyOf c r1M ∗ reached ER (cell c v1S) 0)
      (by rw [duties_bar]; exact Finset.mem_univ _) rfl (Entails.of_eq (by rw [pay_barF, p1_p1])) (ctx_bar _)) $$ [HO Tb1 Hr1]
  · isplitr; · iexact Hc
    isplitl [HO]; · iexact HO
    isplitl [Tb1]; · iexact Tb1
    isplitl [Hr1]
    · isplitl [Hr1]; · iexact Hr1
      iexact Rv1
    iexact Rb1
  iintro HO
  iapply (wp_sig c _ (p2 c) (dev2_eq c _) (s := barrier0) (r := 0) (d := true) (i := 1) (m := m) (K := K) iprop(anyOf c r2M ∗ reached ER (cell c v2S) 0)
      (by rw [duties_bar]; exact Finset.mem_univ _) rfl (Entails.of_eq (by rw [pay_barT, p2_p2])) (ctx_bar _)) $$ [HO Tb2 Hr2]
  · isplitr; · iexact Hc
    isplitl [HO]; · iexact HO
    isplitl [Tb2]; · iexact Tb2
    isplitl [Hr2]
    · isplitl [Hr2]; · iexact Hr2
      iexact Rv2
    iexact Rb2
  iintro HO
  iapply (wp_waitBar c (a4 1 (by omega))) $$ [Kb HO Abar]
  · isplitr; · iexact Hc
    isplitl [Kb]; · iexact Kb
    isplitl [HO]; · iexact HO
    iexact Abar
  rw [pay_barF, pay_barT]
  iintro ⟨HO, Abar, ⟨Hd1, #Rv1p⟩, ⟨Hd2, #Rv2p⟩⟩
  iapply (copy1 (k := 0) c _ (dev3_eq c _) ht hk) $$ [Hx Hd1 HO Ts1 Tv1]
  · isplitr; · iexact Hc
    isplitl [Hx]; · iexact Hx
    isplitl [Hd1]; · iexact Hd1
    isplitr; · iexact Rcr1
    isplitl [HO]; · iexact HO
    isplitl [Ts1]; · iexact Ts1
    isplitr; · iexact Rs1
    isplitl [Tv1]; · iexact Tv1
    iexact Rv1p
  iintro ⟨Ks1, HO⟩
  iapply (waitS1 (k := 0) c ht hk (a3 _ (by omega))) $$ [Ks1 HO As1]
  · isplitr; · iexact Hc
    isplitl [Ks1]; · iexact Ks1
    isplitl [HO]; · iexact HO
    iexact As1
  iintro ⟨HO, As1, #Rs1', Hx⟩
  iapply (waitV1 (k := 0) c hk (a3 _ (by omega))) $$ [KD1 HO Av1]
  · isplitr; · iexact Hc
    isplitl [KD1]; · iexact KD1
    isplitl [HO]; · iexact HO
    iexact Av1
  iintro ⟨HO, Av1, #Rv1', Hr1, #Rcr1'⟩
  iapply (wp_loadAll c) $$ Hx
  iintro Hx
  iapply (wp_loadAll c) $$ Hr1
  iintro Hr1
  unfold anyOf
  icases Ht with ⟨%Y, Ht⟩
  iapply (wp_loadAll c) $$ Ht
  iintro Ht
  iapply (wp_storeAll c) $$ [Ht]
  · unfold anyOf; iexists _; iexact Ht
  iintro Ht
  iapply (sigC1 (j := 0) c _ (dev5_eq c _) (by omega)) $$ [HO Tcr1 Hr1]
  · isplitr; · iexact Hc
    isplitl [HO]; · iexact HO
    isplitl [Tcr1]; · iexact Tcr1
    isplitl [Hr1]
    · isplitl [Hr1]
      · unfold anyOf; iexists _; iexact Hr1
      iexact Rv1'
    iexact Rcr1'
  iintro HO
  iapply (copy2 (k := 0) (O := S + C2 (p2 c) 0) c _ (dev6_eq c _) (by omega)) $$ [HO Ht Ts2 Tv2 Hd2]
  · isplitr; · iexact Hc
    isplitl [Ht]; · iexact Ht
    isplitl [Hd2]; · unfold anyOf; iexact Hd2
    isplitr; · iexact Rcr2
    isplitl [HO]; · iexact HO
    isplitl [Ts2]; · iexact Ts2
    isplitr; · iexact Rs2
    isplitl [Tv2]; · iexact Tv2
    iexact Rv2p
  iintro ⟨Ks2, HO⟩
  rw [wp_ret]; imodintro
  isplitr [HO Hx]
  · isplitl [Tcr2]; · iexact Tcr2
    isplitl [KD2]; · iexact KD2
    isplitl [KC1]; · iexact KC1
    isplitl [KC2]; · iexact KC2
    isplitl [Ks2]; · iexact Ks2
    isplitl [Abar]; · iexact Abar
    isplitl [As1]; · iexact As1
    isplitl [Av1]; · iexact Av1
    isplitl [As2]; · iexact As2
    isplitl [Av2]; · iexact Av2
    isplitl [Acr1]; · iexact Acr1
    isplitl [Acr2]; · iexact Acr2
    isplitr; · iexact Rs1'
    isplitr; · iempintro
    iexact HB
  isplitl [HO]; · iexact HO
  iexact Hx

/-- Device c after the last point: its seven cells closed, its buffers back. -/
def Last (c : Dev nD) : sProp 𝕄 :=
  iprop((semVal (cell c barS) 0 ∗ semVal (cell c s1S) 0 ∗ semVal (cell c v1S) 0 ∗ semVal (cell c s2S) 0 ∗ semVal (cell c v2S) 0 ∗ semVal (cell c cr1S) 0 ∗ semVal (cell c cr2S) 0)
    ∗ anyOf (F := F) c r1M ∗ anyOf (F := F) c r2M ∗ anyOf (F := F) c t2M)

/-- A cell past its last round is closed: its counter stands at zero. -/
theorem close_own (c : Dev nD) {sm : SemLoc sig} (h : sm ∈ owns6) {R : ℕ} (hR : rounds sm ≤ R) :
    iprop(ctx m K ∗ atPos ER (cell c sm) R ∅ 0) ⊢ (|={Set.univ}=> semVal (cell c sm) 0 : sProp 𝕄) := by
  iintro ⟨#Hc, Ha⟩
  iapply (Rounds.cell_close ER (Rd m) (κ := K (cell c sm)) (Set.mem_univ _) id (duties_later m (cell c sm) R hR))
  isplitr; · iapply (ctx_own c h); iexact Hc
  iexact Ha
@[inherit_doc close_own] theorem close_bar (c : Dev nD) :
    iprop(ctx m K ∗ atPos ER (cell c barS) 1 ∅ 0) ⊢ (|={Set.univ}=> semVal (cell c barS) 0 : sProp 𝕄) := by
  iintro ⟨#Hc, Ha⟩
  iapply (Rounds.cell_close ER (Rd m) (κ := K (cell c barS)) (Set.mem_univ _) id (duties_later m (cell c barS) 1 (show rounds barS ≤ 1 by decide)))
  isplitr; · iapply (ctx_bar c); iexact Hc
  iexact Ha

/-- Nothing is owed at the last point. -/
theorem due_last (c : Dev nD) : due c 32 = 0 := by
  show C2 (p2 c) 31 + ∑ k ∈ Finset.Ico 32 32, P c k = 0
  rw [Finset.Ico_self, Finset.sum_empty]; unfold C2; rw [if_neg (by decide), add_zero]

set_option maxHeartbeats 1600000 in
/-- The body at the last point: round 31 ends, its result is written, every cell is closed. -/
theorem step_last (c : Dev nD) (t : Fin cfg0.N) (ht : t.val = 32) :
    iprop(ctx m K ∗ Mid c 31 ∗ Ow c (due c 32) ∗ anyOf c (st0_1 t))
      ⊢ wp frame (wpE (defs₀ (F := F)) 𝒱₀ (c : Thread nD τ) none) Set.univ (bodyAt0 (F := F) t) (fun _ =>
          iprop(Last c ∗ Ow c 0 ∗ own1 c (st0_1 t) (out m c 31))) := by
  have h1 : ¬ k0_cond1 (grid0.coords t) = 1#1 := fun h => by have := (cond1_iff t).1 h; omega
  have h2 : ¬ k0_cond2 (grid0.coords t) = 1#1 := fun h => by have := (cond2_iff t).1 h; omega
  have h4 : k0_cond4 (grid0.coords t) = 1#1 := (cond4_iff t).2 (by omega)
  have h5 : ¬ k0_cond5 (grid0.coords t) = 1#1 := fun h => by have := (cond5_iff t).1 h; omega
  have h6 : ¬ k0_cond6 (grid0.coords t) = 1#1 := fun h => by have := (cond6_iff t).1 h; omega
  unfold bodyAt0
  simp only [cc0__ar_body_eq_skeleton]
  unfold cc0__ar_body_skel
  simp only [semSignalWord, semWaitWord, Prog.lift, Prog.bind_op, Prog.bind_ret, Prog.pure_eq_ret, wp_deviceId, dif_neg h1, dif_neg h2, dif_pos h4, dif_neg h5, dif_neg h6,
    sem3, sem4, sem5, sem6, sem7, sem8]
  rw [due_last]
  unfold Mid Last
  rw [show kept (F := F) c 31 = anyOf c r1M from if_neg (by decide)]
  iintro ⟨#Hc, ⟨-, KD2, -, -, Ks2, Abar, As1, Av1, As2, Av2, Acr1, Acr2, -, Hr1, -⟩, HO, ⟨%Y, Hy⟩⟩
  iapply (waitS2 (k := 31) c (by omega) (above_zero 0)) $$ [Ks2 HO As2]
  · isplitr; · iexact Hc
    isplitl [Ks2]; · iexact Ks2
    isplitl [HO]; · iexact HO
    iexact As2
  iintro ⟨HO, As2, -, Ht⟩
  iapply (waitV2 (k := 31) c (by omega) (above_zero _)) $$ [KD2 HO Av2]
  · isplitr; · iexact Hc
    isplitl [KD2]; · iexact KD2
    isplitl [HO]; · iexact HO
    iexact Av2
  iintro ⟨HO, Av2, -, Hr2, -⟩
  iapply (wp_loadAll c) $$ Ht
  iintro Ht
  iapply (wp_loadAll c) $$ Hr2
  iintro Hr2
  iapply (wp_loadAll c) $$ Hy
  iintro Hy
  iapply (wp_storeAll c) $$ [Hy]
  · unfold anyOf; iexists Y; iexact Hy
  iintro Hy
  rw [wp_ret]
  imod (close_bar c) $$ [Abar] with Abar
  · isplitr; · iexact Hc
    iexact Abar
  imod (close_own c mem_s1 (R := 32) (by decide)) $$ [As1] with As1
  · isplitr; · iexact Hc
    iexact As1
  imod (close_own c mem_v1 (R := 32) (by decide)) $$ [Av1] with Av1
  · isplitr; · iexact Hc
    iexact Av1
  imod (close_own c mem_s2 (R := 32) (by decide)) $$ [As2] with As2
  · isplitr; · iexact Hc
    iexact As2
  imod (close_own c mem_v2 (R := 32) (by decide)) $$ [Av2] with Av2
  · isplitr; · iexact Hc
    iexact Av2
  imod (close_own c mem_cr1 (R := 31) (by decide)) $$ [Acr1] with Acr1
  · isplitr; · iexact Hc
    iexact Acr1
  imod (close_own c mem_cr2 (R := 31) (by decide)) $$ [Acr2] with Acr2
  · isplitr; · iexact Hc
    iexact Acr2
  imodintro
  isplitr [HO Hy]
  · isplitl [Abar As1 Av1 As2 Av2 Acr1 Acr2]
    · isplitl [Abar]; · iexact Abar
      isplitl [As1]; · iexact As1
      isplitl [Av1]; · iexact Av1
      isplitl [As2]; · iexact As2
      isplitl [Av2]; · iexact Av2
      isplitl [Acr1]; · iexact Acr1
      iexact Acr2
    isplitl [Hr1]; · iexact Hr1
    isplitl [Hr2]; · unfold anyOf; iexists _; iexact Hr2
    unfold anyOf; iexists _; iexact Ht
  isplitl [HO]; · iexact HO
  iexact Hy

end Cert.KernelIdeal.AllReduce
-- ==== Proof.Region.lean ====
/- The kernel as a pipelined region: its invariant from point to point and the body's obligation at every point. -/
module

public import proofs.«01_k».proof.Proof.Step

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- What the body keeps before point n. -/
def state (c : Dev nD) (n : ℕ) : sProp 𝕄 :=
  if n = 0 then iprop(∃ K, ctx m K ∗ First (F := F) c) else if n < 33 then iprop(∃ K, ctx m K ∗ Mid (F := F) c (n - 1)) else Last (F := F) c

/-- The region's proof data: the result's block after point t is chunk t - 1 of the sum. -/
def dat0 (c : Dev nD) : Dat τ (Elt F) ℕ ℕ UU ℕ cfg0 c where
  A w := V m c (Pipeline.arrRef spec0 w)
  after := fun
    | 0 => fun t => iblk m c 0 t
    | 1 => fun t => out m c (t.val - 1)
    | ⟨_ + 2, h⟩ => absurd h (Nat.not_lt.2 (Nat.le_add_left _ _))
  Φ t := iprop((∃ r, prngReg c r) ∗ state m c t.val)
  q _ := fullShare
  owed t := due c t.val

theorem idle_in : ∀ t : Fin cfg0.N, cfg0.idle 0 (cfg0.grid.coords t) = false := by decide
theorem idle_out : ∀ t : Fin cfg0.N, cfg0.idle 1 (cfg0.grid.coords t) = decide (t.val = 0) := by decide
theorem flush_out : ∀ t : Fin cfg0.N, (cfg0.win 1).flush t = decide (0 < t.val) := by decide +kernel

/-- The input's staging buffer holds its chunk at every point. -/
theorem before_in (c : Dev nD) (t : Fin cfg0.N) (d) : (dat0 m c).before 0 t d = iblk m c 0 t :=
  ((dat0 m c).before_in_eq_fetched 0 rfl (fun _ => rfl) (fun _ _ _ => rfl) (fun t => rfl) t d).trans rfl

theorem owesAt_intro (c : Dev nD) (t : Fin (cfg0.N + 1)) : Ow c (due c t.val) ⊢ ((dat0 m c).owesAt 0 t : sProp 𝕄) := by
  unfold Dat.owesAt Pipeline.owesWithin Dat.bound
  iintro ⟨%W, HO⟩; iexists W; isplitr; · ipureintro; exact fun _ _ => Or.inl trivial
  iexact HO
theorem owesAt_elim (c : Dev nD) (t : Fin (cfg0.N + 1)) : ((dat0 m c).owesAt 0 t : sProp 𝕄) ⊢ Ow c (due c t.val) := by
  unfold Dat.owesAt Pipeline.owesWithin
  iintro ⟨%W, -, HO⟩; iexists W; iexact HO

theorem due_end (c : Dev nD) : due c 33 = 0 := by
  show C2 (p2 c) 32 + ∑ k ∈ Finset.Ico 33 32, P c k = 0
  rw [Finset.Ico_eq_empty (by decide), Finset.sum_empty]; unfold C2; rw [if_neg (by decide), add_zero]

theorem leaves_out (c : Dev nD) (t : Fin cfg0.N) (h : 0 < t.val) :
    (dat0 m c).leavesExact 1 t = own1 c (st0_1 t) (out m c (t.val - 1)) := by
  unfold Dat.leavesExact; rw [idle_out, decide_eq_false (by omega : ¬ t.val = 0)]; rfl
theorem leaves_in (c : Dev nD) (t : Fin cfg0.N) :
    (dat0 m c).leavesExact 0 t = own1 c (st0_0 t) (iblk m c 0 t) := by
  unfold Dat.leavesExact; rw [idle_in]; rfl
theorem leaves_idle (c : Dev nD) (t : Fin cfg0.N) (h : t.val = 0) :
    (dat0 m c).leavesExact 1 t = iprop(∃ d, own1 c (st0_1 t) ((dat0 m c).before 1 t d)) :=
  (dat0 m c).leavesExact_idle 1 t (by rw [idle_out, decide_eq_true h]) (by rw [flush_out, decide_eq_false (by omega)])

/-- A proved step, used with more in hand. -/
theorem wp_use {c : Dev nD} {A B Q : sProp 𝕄} {p : Prog (TpuEff nD τ sig (Elt F) Λ₀ .tc) PUnit}
    (h : A ⊢ wp frame (wpE (defs₀ (F := F)) 𝒱₀ (c : Thread nD τ) none) Set.univ p (fun _ => B)) :
    A ⊢ iprop((B -∗ Q) -∗ wp frame (wpE (defs₀ (F := F)) 𝒱₀ (c : Thread nD τ) none) Set.univ p (fun _ => Q)) := by
  refine BI.wand_intro ((sep_mono_left h).trans ((wp_frame_r _ _ _).trans (wp_mono _ _ _ fun _ => ?_)))
  iintro ⟨HB, HQ⟩
  iapply HQ; iexact HB

theorem Φ_castSucc (c : Dev nD) (t : Fin cfg0.N) : (dat0 m c).Φ t.castSucc = iprop((∃ r, prngReg c r) ∗ state m c t.val) := rfl
theorem Φ_succ (c : Dev nD) (t : Fin cfg0.N) : (dat0 m c).Φ t.succ = iprop((∃ r, prngReg c r) ∗ state m c (t.val + 1)) := rfl
theorem state_first (c : Dev nD) : state m c 0 = iprop(∃ K, ctx m K ∗ First (F := F) c) := if_pos rfl
theorem state_mid (c : Dev nD) {j : ℕ} (h : j < 32) : state m c (j + 1) = iprop(∃ K, ctx m K ∗ Mid (F := F) c j) := by
  unfold state; rw [if_neg (Nat.succ_ne_zero j), if_pos (by omega)]; rfl
theorem state_last (c : Dev nD) : state m c 33 = Last (F := F) c := by
  unfold state; rw [if_neg (by decide), if_neg (by decide)]

set_option maxHeartbeats 800000 in
/-- The body's obligation at every point. -/
theorem body0 (c : Dev nD) : BodyObligation (dat0 m c) defs₀ 𝒱₀ 0 Set.univ := fun t => by
  have hN : t.val < 33 := by have h := t.isLt; have h' : cfg0.N = 33 := N_0; omega
  have main : iprop(((∃ r, prngReg c r) ∗ state m c t.val) ∗ Ow c (due c t.val)
        ∗ (∃ d, own1 c (st0_0 t) ((dat0 m c).before 0 t d)) ∗ (∃ d, own1 c (st0_1 t) ((dat0 m c).before 1 t d)))
      ⊢ wp frame (wpE (defs₀ (F := F)) 𝒱₀ (c : Thread nD τ) none) Set.univ (bodyAt0 (F := F) t) (fun _ =>
          iprop(((∃ r, prngReg c r) ∗ state m c (t.val + 1)) ∗ Ow c (due c (t.val + 1)) ∗ (dat0 m c).leavesExact 0 t ∗ (dat0 m c).leavesExact 1 t)) := by
    rw [leaves_in]
    simp only [before_in]
    obtain h0 | ⟨j, hj, h31⟩ | h32 : t.val = 0 ∨ (∃ j, t.val = j + 1 ∧ j < 31) ∨ t.val = 32 := by
      rcases Nat.eq_zero_or_pos t.val with h | h
      · exact .inl h
      · rcases Nat.lt_or_ge t.val 32 with h' | h'
        · exact .inr (.inl ⟨t.val - 1, by omega, by omega⟩)
        · exact .inr (.inr (by omega))
    · have e : iblk m c 0 t = xb m c 0 := by rw [← h0]; show iblk m c 0 t = iblk m c 0 (point t.val); rw [point_val]
      rw [leaves_idle m c t h0, e, h0, state_first, state_mid m c (by decide : 0 < 32)]
      iintro ⟨⟨Hp, %K, #Hc, HS⟩, HO, ⟨%d, Hx⟩, ⟨%d', Hy⟩⟩
      iapply (wp_use (step_first (m := m) (K := K) c t h0)) $$ [HS HO Hx]
      · isplitr; · iexact Hc
        isplitl [HS]; · iexact HS
        isplitl [HO]; · iexact HO
        iexact Hx
      iintro ⟨HS, HO, Hx⟩
      isplitl [Hp HS]
      · isplitl [Hp]; · iexact Hp
        iexists K
        isplitr; · iexact Hc
        iexact HS
      isplitl [HO]; · iexact HO
      isplitl [Hx]; · iexact Hx
      iexists d'; iexact Hy
    · have e : iblk m c 0 t = xb m c (j + 1) := by rw [← hj]; show iblk m c 0 t = iblk m c 0 (point t.val); rw [point_val]
      rw [leaves_out m c t (by omega), e, hj, state_mid m c (by omega : j < 32), state_mid m c (by omega : j + 1 < 32)]
      iintro ⟨⟨Hp, %K, #Hc, HS⟩, HO, ⟨%d, Hx⟩, ⟨%d', Hy⟩⟩
      iapply (wp_use (step_mid (m := m) (K := K) c t j hj h31)) $$ [HS HO Hx Hy]
      · isplitr; · iexact Hc
        isplitl [HS]; · iexact HS
        isplitl [HO]; · iexact HO
        isplitl [Hx]; · iexact Hx
        iexists _; iexact Hy
      iintro ⟨HS, HO, Hx, Hy⟩
      isplitl [Hp HS]
      · isplitl [Hp]; · iexact Hp
        iexists K
        isplitr; · iexact Hc
        iexact HS
      isplitl [HO]; · iexact HO
      isplitl [Hx]; · iexact Hx
      iexact Hy
    · rw [leaves_out m c t (by omega), h32, state_mid m c (by decide : 31 < 32), state_last, due_end]
      iintro ⟨⟨Hp, %K, #Hc, HS⟩, HO, ⟨%d, Hx⟩, ⟨%d', Hy⟩⟩
      iapply (wp_use (step_last (m := m) (K := K) c t h32)) $$ [HS HO Hy]
      · isplitr; · iexact Hc
        isplitl [HS]; · iexact HS
        isplitl [HO]; · iexact HO
        iexists _; iexact Hy
      iintro ⟨HS, HO, Hy⟩
      isplitl [Hp HS]
      · isplitl [Hp]; · iexact Hp
        iexact HS
      isplitl [HO]; · iexact HO
      isplitl [Hx]; · iexact Hx
      iexact Hy
  have e0 : ∀ X : Fin cfg0.W → sProp 𝕄, bigSep Finset.univ X = iprop(X (0 : Fin 2) ∗ X (1 : Fin 2)) := fun X => bigSep_W0 X
  rw [e0, e0, Φ_castSucc, Φ_succ]
  refine BIBase.Entails.trans ?_ (main.trans (wp_mono _ _ _ fun _ => ?_))
  · iintro ⟨HΦ, HO, Hx, Hy⟩
    isplitl [HΦ]; · iexact HΦ
    isplitl [HO]; · iapply (owesAt_elim m c t.castSucc) $$ HO
    isplitl [Hx]; · iexact Hx
    iexact Hy
  · iintro ⟨HΦ, HO, Hx, Hy⟩
    isplitl [HΦ]; · iexact HΦ
    isplitl [HO]; · iapply (show Ow c (due c (t.val + 1)) ⊢ (dat0 m c).owesAt 0 t.succ from owesAt_intro m c t.succ) $$ HO
    isplitl [Hx]; · iexact Hx
    iexact Hy

end Cert.KernelIdeal.AllReduce
-- ==== Proof.Talk.lean ====
/- The program as segments: the host's product, the kernel's region, the host's quantiser. -/
module

public import proofs.«01_k».proof.Proof.Region

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## What goes into the region and what comes out -/

/-- The kernel's own semaphores. -/
abbrev osem : Fin 6 → SemLoc sig := ![s1S, v1S, s2S, v2S, cr1S, cr2S]

theorem bigSep_six {M : Type} [URA M] (Φ : Fin 6 → sProp M) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem ownSems_eq (c : Dev nD) : (Pipeline.ownSems0 osem c : sProp 𝕄)
    = iprop(semVal (cell c s1S) 0 ∗ semVal (cell c v1S) 0 ∗ semVal (cell c s2S) 0 ∗ semVal (cell c v2S) 0 ∗ semVal (cell c cr1S) 0 ∗ semVal (cell c cr2S) 0) :=
  bigSep_six (fun k : Fin 6 => (semVal ((c : Thread nD τ), osem k) 0 : sProp 𝕄))

/-- What a device holds from the launch: the tokens of the payments it makes, the credit of those it waits for, its
    place at its barrier, and the right to open each of its six other cells. -/
def held0 (c : Dev nD) : sProp 𝕄 :=
  iprop(dutyTok ER (cell (p1 c) barS) 0 false ∗ dutyTok ER (cell (p2 c) barS) 0 true ∗ cred (tallyAt (cell c barS) 1 2)
    ∗ atPos ER (cell c barS) 0 ∅ 0
    ∗ (openTok ER (cell c s1S) ∗ openTok ER (cell c v1S) ∗ openTok ER (cell c s2S) ∗ openTok ER (cell c v2S) ∗ openTok ER (cell c cr1S) ∗ openTok ER (cell c cr2S))
    ∗ reached ER (cell (p1 c) barS) 0 ∗ reached ER (cell (p2 c) barS) 0 ∗ bundles (F := F) c 0)
/-- The same with the six cells open. -/
def opened (c : Dev nD) : sProp 𝕄 :=
  iprop(dutyTok ER (cell (p1 c) barS) 0 false ∗ dutyTok ER (cell (p2 c) barS) 0 true ∗ cred (tallyAt (cell c barS) 1 2)
    ∗ atPos ER (cell c barS) 0 ∅ 0
    ∗ ((atPos ER (cell c s1S) 0 ∅ 0 ∗ reached ER (cell c s1S) 0) ∗ (atPos ER (cell c v1S) 0 ∅ 0 ∗ reached ER (cell c v1S) 0)
      ∗ (atPos ER (cell c s2S) 0 ∅ 0 ∗ reached ER (cell c s2S) 0) ∗ (atPos ER (cell c v2S) 0 ∅ 0 ∗ reached ER (cell c v2S) 0)
      ∗ (atPos ER (cell c cr1S) 0 ∅ 0 ∗ reached ER (cell c cr1S) 0) ∗ (atPos ER (cell c cr2S) 0 ∅ 0 ∗ reached ER (cell c cr2S) 0))
    ∗ reached ER (cell (p1 c) barS) 0 ∗ reached ER (cell (p2 c) barS) 0 ∗ bundles (F := F) c 0)

def Tk (c : Dev nD) : sProp 𝕄 := iprop(∃ K, invs m K ∗ held0 (F := F) c)
@[inherit_doc Tk] def Xk (c : Dev nD) : sProp 𝕄 := iprop(∃ K, ctx m K ∗ opened (F := F) c)
@[inherit_doc Tk] def Yk (c : Dev nD) : sProp 𝕄 := semVal (cell c barS) 0

theorem open_one (K : GSem nD τ sig → ℕ) (c : Dev nD) {sm : SemLoc sig} (h : sm ∈ owns6) :
    iprop(invs m K ∗ openTok ER (cell c sm) ∗ semVal (cell c sm) 0)
      ⊢ (|={Set.univ}=> iprop(atPos ER (cell c sm) 0 ∅ 0 ∗ reached ER (cell c sm) 0) : sProp 𝕄) := by
  iintro ⟨#HI, Ho, Hs⟩
  imod (Rounds.cell_open ER (Rd m) (g := cell c sm) (Set.mem_univ (K (cell c sm)))) $$ [Ho Hs] with ⟨Ha, Hr⟩
  · isplitr; · iapply (invs_own m K c h); iexact HI
    isplitl [Ho] <;> iassumption
  imodintro
  isplitl [Ha] <;> iassumption

theorem hopen (c : Dev nD) : iprop(Tk m c ∗ Pipeline.ownSems0 osem c ∗ levAts L lv) ⊢ (|={Set.univ}=> Xk m c : sProp 𝕄) := by
  rw [ownSems_eq]
  unfold Tk Xk held0 opened ctx
  iintro ⟨⟨%K, #HI, Ht1, Ht2, Hcr, Hb, ⟨Ho1, Ho2, Ho3, Ho4, Ho5, Ho6⟩, Hr1, Hr2, Hbs⟩, ⟨Hs1, Hs2, Hs3, Hs4, Hs5, Hs6⟩, #Hlev⟩
  imod (open_one m K c (sm := s1S) (by decide)) $$ [Ho1 Hs1] with H1
  · isplitr; · iexact HI
    isplitl [Ho1] <;> iassumption
  imod (open_one m K c (sm := v1S) (by decide)) $$ [Ho2 Hs2] with H2
  · isplitr; · iexact HI
    isplitl [Ho2] <;> iassumption
  imod (open_one m K c (sm := s2S) (by decide)) $$ [Ho3 Hs3] with H3
  · isplitr; · iexact HI
    isplitl [Ho3] <;> iassumption
  imod (open_one m K c (sm := v2S) (by decide)) $$ [Ho4 Hs4] with H4
  · isplitr; · iexact HI
    isplitl [Ho4] <;> iassumption
  imod (open_one m K c (sm := cr1S) (by decide)) $$ [Ho5 Hs5] with H5
  · isplitr; · iexact HI
    isplitl [Ho5] <;> iassumption
  imod (open_one m K c (sm := cr2S) (by decide)) $$ [Ho6 Hs6] with H6
  · isplitr; · iexact HI
    isplitl [Ho6] <;> iassumption
  imodintro
  iexists K
  isplitr
  · isplitr; · iexact HI
    iexact Hlev
  isplitl [Ht1]; · iexact Ht1
  isplitl [Ht2]; · iexact Ht2
  isplitl [Hcr]; · iexact Hcr
  isplitl [Hb]; · iexact Hb
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [Hr1]; · iexact Hr1
  isplitl [Hr2]; · iexact Hr2
  iexact Hbs

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat0 m

/-- The three scratch buffers, at contents not chosen. -/
theorem scratch_eq (c : Dev nD) :
    (Pipeline.scopedRest (Ix := ℕ) (Name := ℕ) (U := UU) (Lvl := ℕ) (Val := Elt F) (Pipeline.pin (pcfgs (F := F)) adm 0).spec c : sProp 𝕄)
      = iprop(anyOf (F := F) c r1M ∗ anyOf (F := F) c r2M ∗ anyOf (F := F) c t2M) := by
  rw [show (Pipeline.scopedRest (Pipeline.pin (pcfgs (F := F)) adm 0).spec c : sProp 𝕄) = _ from scopedRest0_eq c]
  exact congrArg₂ _ (congrArg _ (funext fun f => (owns_whole (c : Thread nD τ) cc0_scratch0 fullShare f).symm))
    (congrArg₂ _ (congrArg _ (funext fun f => (owns_whole (c : Thread nD τ) cc0_scratch1 fullShare f).symm))
      (congrArg _ (funext fun f => (owns_whole (c : Thread nD τ) cc0_scratch2 fullShare f).symm)))

theorem hin (c : Dev nD) : iprop(Pipeline.scopedRest (Pipeline.pin (pcfgs (F := F)) adm 0).spec c ∗ (∃ r, prngReg c r) ∗ StableHlo.held (c.tc : Thread nD τ) ∅ (V0 m c) ∗ Xk m c)
    ⊢ (pdats m 0 c).Φ 0 := by
  rw [show (pdats m 0 c).Φ 0 = iprop((∃ r, prngReg c r) ∗ state m c 0) from rfl, scratch_eq, state_first]
  unfold Xk opened First
  iintro ⟨⟨Hm1, Hm2, Hm3⟩, Hp, -, ⟨%K, #Hc, Ht1, Ht2, Hcr, Hb, ⟨⟨Ha1, Hq1⟩, ⟨Ha2, Hq2⟩, ⟨Ha3, Hq3⟩, ⟨Ha4, Hq4⟩, ⟨Ha5, Hq5⟩, ⟨Ha6, Hq6⟩⟩, Hr1, Hr2, Hbs⟩⟩
  isplitl [Hp]; · iexact Hp
  iexists K
  isplitr; · iexact Hc
  isplitl [Ht1]; · iexact Ht1
  isplitl [Ht2]; · iexact Ht2
  isplitl [Hcr]; · iexact Hcr
  isplitl [Hb Ha1 Ha2 Ha3 Ha4 Ha5 Ha6]
  · isplitl [Hb]; · iexact Hb
    isplitl [Ha1]; · iexact Ha1
    isplitl [Ha2]; · iexact Ha2
    isplitl [Ha3]; · iexact Ha3
    isplitl [Ha4]; · iexact Ha4
    isplitl [Ha5]; · iexact Ha5
    iexact Ha6
  isplitl [Hr1 Hr2]
  · isplitl [Hr1] <;> iassumption
  isplitl [Hq1 Hq2 Hq3 Hq4 Hq5 Hq6]
  · isplitl [Hq1]; · iexact Hq1
    isplitl [Hq2]; · iexact Hq2
    isplitl [Hq3]; · iexact Hq3
    isplitl [Hq4]; · iexact Hq4
    isplitl [Hq5]; · iexact Hq5
    iexact Hq6
  isplitl [Hm1]; · iexact Hm1
  isplitl [Hm2]; · iexact Hm2
  isplitl [Hm3]; · iexact Hm3
  iexact Hbs

/-- The buffers after the region: the result's array as the write-backs left it, the rest unchanged. -/
def W1 (c : Dev nD) : Valuation τ sig (Elt F) := Pipeline.withArrays spec0 c (V0 m c) fun w => (dat0 m c).arrAt w cfg0.N

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W1 m c) ∗ Pipeline.ownSems0 osem c ∗ Yk (F := F) c) := by
  rw [show (pdats m 0 c).Φ (Fin.last _) = iprop((∃ r, prngReg c r) ∗ state m c 33) from rfl, scratch_eq, state_last, ownSems_eq,
    show (StableHlo.held (c.tc : Thread nD τ) ∅ (W1 m c) : sProp 𝕄) = BI.emp from BI.bigSep_empty]
  unfold Last Yk
  iintro ⟨Hp, ⟨Hb, H1, H2, H3, H4, H5, H6⟩, Hm1, Hm2, Hm3⟩
  isplitl [Hm1 Hm2 Hm3]
  · isplitl [Hm1]; · iexact Hm1
    isplitl [Hm2] <;> iassumption
  isplitl [Hp]; · iexact Hp
  isplitr; · iempintro
  isplitl [H1 H2 H3 H4 H5 H6]
  · isplitl [H1]; · iexact H1
    isplitl [H2]; · iexact H2
    isplitl [H3]; · iexact H3
    isplitl [H4]; · iexact H4
    isplitl [H5]; · iexact H5
    iexact H6
  iexact Hb

theorem W1_arr (c : Dev nD) (w : Fin 2) : W1 m c (Proc.devRef .tc (Pipeline.arrRef spec0 w)) = (dat0 m c).arrAt w cfg0.N :=
  Pipeline.withArrays_arr spec0 winFacts0.arr_inj c _ _ w
theorem W1_others (c : Dev nD) {b : DevRef τ sig} (hb : b ∉ Pipeline.arrRefs (τ := τ) spec0) : W1 m c b = V0 m c b := by
  unfold W1 Pipeline.withArrays
  rw [dif_neg]
  rintro ⟨w, rfl⟩
  exact hb (Finset.mem_map_of_mem _ (Finset.mem_image_of_mem _ (Finset.mem_univ w)))

theorem above_due (c : Dev nD) : ∀ n, Above 0 (due c n)
  | 0 => above_add (above_add (above_rest c 0 (by decide)) (above_tally _ _ _ (by decide) (by decide))) (above_tally _ _ _ (by decide) (by decide))
  | j + 1 => above_add (above_C2 _ (by omega)) (above_rest c (j + 1) (by omega))

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-! ## The segments -/

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

/-- The unscoped buffers that are no array of the kernel. -/
abbrev others : Finset (DevRef τ sig) := Pipeline.ucRefs τ sig \ Pipeline.arrRefs (τ := τ) spec0

/-- What rides along beside the buffers on the way in and on the way out. -/
def rIn (c : Dev nD) : sProp 𝕄 := iprop((∃ r, prngReg c r) ∗ Tk m c ∗ Ow (F := F) c (due c 0))
@[inherit_doc rIn] def rOut (c : Dev nD) : sProp 𝕄 := iprop((∃ r, prngReg c r) ∗ semVal (cell c barS) 0 ∗ Ow (F := F) c 0)

def seg0 : ℍ := Pipeline.HostSeg.ofOps _ _ _ _ _ (Pipeline.ucRefs τ sig) hostOps0
  (fun op h => Pipeline.sub_ucRefs op (List.forall_iff_forall_mem.mp hostOps0_sub op h)) (List.forall_iff_forall_mem.mp hostOps0_fresh)
  (fun c b => m (c, b)) (rIn m)

set_option backward.isDefEq.respectTransparency.types false in
def reg0 : ℝ𝕊 0 :=
  Pipeline.RegionSeg.ofTalk (pcfgs (F := F)) adm (pdats m) 0 defs₀ 𝒱₀ L lv 0 osem (by decide : Pipeline.OwnSemFacts spec0 osem)
    ∅ others (Finset.empty_subset _) kitP rfl (fun c => (body0 m c).loose)
    (fun _ => 0) (fun c => due c 0) (fun c => (zero_add _).symm) (fun c => due_end c) (fun _ => rfl) (fun _ w => by fin_cases w <;> rfl)
    (V0 m) (W1 m) (fun c b hb => W1_others m c (Finset.mem_sdiff.mp (Finset.mem_sdiff.mp hb).1).2)
    (Tk m) Yk (Xk m) Yk (hopen m) (hin m) (hout m)
    (fun c => by iintro H; imodintro; iexact H)
    (fun _ => 0)
    ⟨fun c w s => mem_L rfl (by decide), fun c w s => le_rfl, fun c t g i h => by
      obtain ⟨h1, h2, h3⟩ := above_due c t.val g i h
      exact ⟨by unfold L; rw [if_pos h1]; exact Finset.mem_range.mpr h3, h2⟩⟩
    (fun _ => iprop(emp))
    (fun c w => rfl) (fun c w => (W1_arr m c w).symm)

end Cert.KernelIdeal.AllReduce
-- ==== Proof.Deal.lean ====
/- The launch: the cells and tokens made, the tokens and the credit dealt to the devices that use them. -/
module

public import proofs.«01_k».proof.Proof.Talk
public import Idealize.ShloMosaic.Lib.Quiescent

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The tokens -/

/-- The semaphore and the duty of a token's kind. -/
abbrev tsem : Fin 8 → SemLoc sig := ![v1S, s1S, v2S, s2S, cr1S, cr2S, barS, barS]
@[inherit_doc tsem] abbrev tduty : Fin 8 → Bool := ![false, false, false, false, false, false, false, true]
theorem tkind_inj : Function.Injective (fun j : Fin 8 => (tsem j, tduty j)) := by decide

/-- Every token, of 32 rounds on every semaphore. -/
def talkToks : Finset (GSem nD τ sig × ℕ × Bool) :=
  Finset.univ.map ⟨fun x : Dev nD × Fin 8 × Fin 32 => (cell x.1 (tsem x.2.1), x.2.2.val, tduty x.2.1), fun x y h =>
    Prod.ext (congrArg (fun t : GSem nD τ sig × ℕ × Bool => t.1.1.1) h)
      (Prod.ext (tkind_inj (Prod.ext (congrArg (fun t : GSem nD τ sig × ℕ × Bool => t.1.2) h) (congrArg (fun t : GSem nD τ sig × ℕ × Bool => t.2.2) h)))
        (Fin.ext (congrArg (fun t : GSem nD τ sig × ℕ × Bool => t.2.1) h)))⟩

/-- The tokens of one kind on one device's cell. -/
def tok (sm : SemLoc sig) (b : Bool) (c : Dev nD) : sProp 𝕄 := bigSep (Finset.Ico 0 32) fun k => dutyTok ER (cell c sm) k b

theorem bigSep_eight {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem toks_eq : bigSep talkToks (fun x => (dutyTok ER x.1 x.2.1 x.2.2 : sProp 𝕄))
    = bigSep Finset.univ fun c : Dev nD => iprop(tok (F := F) v1S false c ∗ tok (F := F) s1S false c ∗ tok (F := F) v2S false c ∗ tok (F := F) s2S false c
        ∗ tok (F := F) cr1S false c ∗ tok (F := F) cr2S false c ∗ tok (F := F) barS false c ∗ tok (F := F) barS true c) := by
  unfold talkToks
  rw [bigSep_map, bigSep_univ_prod]
  have h (c : Dev nD) (sm : SemLoc sig) (b : Bool) : bigSep Finset.univ (fun k : Fin 32 => (dutyTok ER (cell c sm) k.val b : sProp 𝕄)) = tok (F := F) sm b c := by
    unfold tok
    rw [Nat.Ico_zero_eq_range]
    exact Ring.bigSep_fin_eq_range 32 _ (fun k => (dutyTok ER (cell c sm) k b : sProp 𝕄)) fun _ _ => rfl
  refine bigSep_congr fun c _ => ?_
  rw [bigSep_univ_prod, bigSep_eight, ← h, ← h, ← h, ← h, ← h, ← h, ← h, ← h]
  rfl

/-- Each token handed to the device that pays with it. -/
theorem toks_around :
    (bigSep Finset.univ fun c : Dev nD => iprop(tok (F := F) v1S false c ∗ tok (F := F) s1S false c ∗ tok (F := F) v2S false c ∗ tok (F := F) s2S false c
        ∗ tok (F := F) cr1S false c ∗ tok (F := F) cr2S false c ∗ tok (F := F) barS false c ∗ tok (F := F) barS true c))
      = (bigSep Finset.univ fun c : Dev nD => iprop(tok (F := F) v1S false (p1 c) ∗ tok (F := F) s1S false c ∗ tok (F := F) v2S false (p2 c) ∗ tok (F := F) s2S false c
        ∗ tok (F := F) cr1S false (p1 c) ∗ tok (F := F) cr2S false (p2 c) ∗ tok (F := F) barS false (p1 c) ∗ tok (F := F) barS true (p2 c)) : sProp 𝕄) := by
  simp only [bigSep_sep']
  rw [bigSep_univ_equiv e1 (tok (F := F) v1S false), bigSep_univ_equiv e2 (tok (F := F) v2S false), bigSep_univ_equiv e1 (tok (F := F) cr1S false),
    bigSep_univ_equiv e2 (tok (F := F) cr2S false), bigSep_univ_equiv e1 (tok (F := F) barS false), bigSep_univ_equiv e2 (tok (F := F) barS true)]
  rfl

theorem tok_first (sm : SemLoc sig) (b : Bool) (c : Dev nD) : (tok sm b c : sProp 𝕄) ⊢ dutyTok ER (cell c sm) 0 b :=
  bigSep_elim (s := Finset.Ico 0 32) (Φ := fun k => (dutyTok ER (cell c sm) k b : sProp 𝕄)) (by decide : 0 ∈ Finset.Ico 0 32)

/-! ## The credit -/

/-- What device c's cells are paid in all, with the barrier apart. -/
def recvd (c : Dev nD) : CellTallies nD τ sig ℕ := ∑ k ∈ Finset.Ico 0 32, (D1 c k + D2 c k + C1 c k + C2 c k)

theorem cred_sum_Ico (s : Finset ℕ) (f : ℕ → CellTallies nD τ sig ℕ) : (cred (∑ k ∈ s, f k) : sProp 𝕄) = bigSep s fun k => cred (f k) := by
  induction s using Finset.induction_on with
  | empty => rw [Finset.sum_empty, cred_zero, bigSep_empty]; rfl
  | insert k s hk ih => rw [Finset.sum_insert hk, bigSep_insert hk, ← ih]; exact BI.Entails.antisymm (cred_add _ _).1 (cred_add _ _).2

theorem cred_add' (A B : CellTallies nD τ sig ℕ) : (cred (A + B) : sProp 𝕄) = iprop(cred A ∗ cred B) := BI.Entails.antisymm (cred_add A B).1 (cred_add A B).2

theorem sum_regroup {M : Type} [AddCommMonoid M] (a b x y t : Dev nD → M) :
    (∑ d, ((a (p1 d) + b (p2 d) + x (p1 d) + y (p2 d)) + t (p2 d) + t (p1 d))) = ∑ d, ((t d + t d) + (a d + b d + x d + y d)) := by
  simp only [Finset.sum_add_distrib]
  rw [show ∑ d, a (p1 d) = ∑ d, a d from Equiv.sum_comp e1 a, show ∑ d, b (p2 d) = ∑ d, b d from Equiv.sum_comp e2 b,
    show ∑ d, x (p1 d) = ∑ d, x d from Equiv.sum_comp e1 x, show ∑ d, y (p2 d) = ∑ d, y d from Equiv.sum_comp e2 y,
    show ∑ d, t (p1 d) = ∑ d, t d from Equiv.sum_comp e1 t, show ∑ d, t (p2 d) = ∑ d, t d from Equiv.sum_comp e2 t]
  ac_rfl

theorem due_regroup : (∑ d : Dev nD, due d 0) = ∑ d : Dev nD, (tallyAt (cell d barS) 1 2 + recvd d) := by
  have h := sum_regroup (fun d : Dev nD => ∑ k ∈ Finset.Ico 0 32, D1 d k) (fun d => ∑ k ∈ Finset.Ico 0 32, D2 d k)
    (fun d => ∑ k ∈ Finset.Ico 0 32, C1 d k) (fun d => ∑ k ∈ Finset.Ico 0 32, C2 d k) (fun d => tallyAt (cell d barS) 1 1)
  have hl : ∀ d : Dev nD, due d 0 = ((∑ k ∈ Finset.Ico 0 32, D1 (p1 d) k) + (∑ k ∈ Finset.Ico 0 32, D2 (p2 d) k) + (∑ k ∈ Finset.Ico 0 32, C1 (p1 d) k)
      + (∑ k ∈ Finset.Ico 0 32, C2 (p2 d) k)) + tallyAt (cell (p2 d) barS) 1 1 + tallyAt (cell (p1 d) barS) 1 1 := fun d => by
    simp only [due, P, Finset.sum_add_distrib]
  have hr : ∀ d : Dev nD, tallyAt (cell d barS) 1 2 + recvd d = ((tallyAt (cell d barS) 1 1 + tallyAt (cell d barS) 1 1)
      + ((∑ k ∈ Finset.Ico 0 32, D1 d k) + (∑ k ∈ Finset.Ico 0 32, D2 d k) + (∑ k ∈ Finset.Ico 0 32, C1 d k) + (∑ k ∈ Finset.Ico 0 32, C2 d k))) := fun d => by
    simp only [recvd, Finset.sum_add_distrib, tallyAt_add]
  rw [Finset.sum_congr rfl fun d _ => hl d, Finset.sum_congr rfl fun d _ => hr d]
  exact h

theorem sep_assoc4 (A B C D : sProp 𝕄) : iprop(((A ∗ B) ∗ C) ∗ D) = iprop(A ∗ B ∗ C ∗ D) := by
  have h : iprop(((A ∗ B) ∗ C) ∗ D) ⊣⊢ iprop(A ∗ B ∗ C ∗ D) := Laws.sep_assoc.trans Laws.sep_assoc
  exact BI.Entails.antisymm h.1 h.2

/-- Nothing off device d's cells. -/
def On (d : Dev nD) (O : CellTallies nD τ sig ℕ) : Prop := ∀ g, g.1 ≠ (d : Thread nD τ) → O g = 0
theorem on_add {d : Dev nD} {A B : CellTallies nD τ sig ℕ} (h : On d A) (h' : On d B) : On d (A + B) := fun g hg => by
  rw [Pi.add_apply, h g hg, h' g hg, add_zero]
theorem on_tally (d : Dev nD) (sm : SemLoc sig) (i n : ℕ) : On d (tallyAt (cell d sm) i n) := fun g hg => by
  unfold tallyAt tallyOn
  exact Pi.single_eq_of_ne (fun h => hg (congrArg (fun g : GSem nD τ sig => g.1) h)) _
theorem on_if {d : Dev nD} {p : Prop} [Decidable p] {O : CellTallies nD τ sig ℕ} (h : On d O) : On d (if p then O else 0) := by
  split
  · exact h
  · exact fun _ _ => rfl
theorem on_recvd (d : Dev nD) : On d (recvd d) := fun g hg => by
  unfold recvd
  rw [Finset.sum_apply]
  exact Finset.sum_eq_zero fun k _ => on_add (on_add (on_add (on_tally d _ _ _) (on_tally d _ _ _)) (on_if (on_tally d _ _ _))) (on_if (on_tally d _ _ _)) g hg

theorem launch_credit (c : Dev nD) : (Pipeline.launchCred (fun d => due d 0) c : sProp 𝕄)
    = iprop(cred (tallyAt (cell c barS) 1 2) ∗ bigSep (Finset.Ico 0 32) fun k => iprop(cred (D1 c k) ∗ cred (D2 c k) ∗ cred (C1 c k) ∗ cred (C2 c k))) := by
  rw [Pipeline.launchCred_of_sum (fun d => due d 0) (fun d => tallyAt (cell d barS) 1 2 + recvd d) due_regroup
    (fun d g h => by
      by_contra hg
      exact h (on_add (on_tally d _ _ _) (on_recvd d) g hg)) c, cred_add']
  unfold recvd
  rw [cred_sum_Ico]
  exact congrArg _ (bigSep_congr fun k _ => by rw [cred_add', cred_add', cred_add']; exact sep_assoc4 _ _ _ _)

end Cert.KernelIdeal.AllReduce
-- ==== Proof.Init.lean ====
/- The launch: every cell made and everything dealt to the devices. -/
module

public import proofs.«01_k».proof.Proof.Deal
public import Idealize.ShloMosaic.Lib.Quiescent

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The launch -/

theorem dorm_eq : dorm = Finset.univ.map ⟨fun x : Dev nD × Fin 6 => cell x.1 (osem x.2), fun x y h =>
    Prod.ext (congrArg (fun g : GSem nD τ sig => g.1.1) h) ((by decide : Function.Injective osem) (congrArg (fun g : GSem nD τ sig => g.2) h))⟩ := by
  ext g
  simp only [dorm, Finset.mem_map, Finset.mem_product, Finset.mem_univ, true_and, Function.Embedding.coeFn_mk]
  constructor
  · rintro ⟨⟨c, sm⟩, h, rfl⟩
    obtain ⟨j, rfl⟩ := (by decide : ∀ sm ∈ owns6, ∃ j, osem j = sm) sm h
    exact ⟨(c, j), rfl⟩
  · rintro ⟨⟨c, j⟩, rfl⟩
    exact ⟨(c, osem j), (by decide : ∀ j, osem j ∈ owns6) j, rfl⟩

theorem disjoint_cells : Disjoint bars dorm := by
  rw [Finset.disjoint_left]
  rintro g h₁ h₂
  obtain ⟨c, -, rfl⟩ := Finset.mem_map.mp h₁
  rw [dorm_eq] at h₂
  obtain ⟨⟨d, j⟩, -, h⟩ := Finset.mem_map.mp h₂
  exact (by decide : ∀ j, osem j ≠ barS) j (congrArg (fun g : GSem nD τ sig => g.2) h)

/-- The launch element: the pipeline's at its staging cells, the schedule's at its own. -/
def u₀ : UU :=
  (initOf (Pipeline.cells (Pipeline.pin (pcfgs (F := F)) adm) cellOf_inj) (Pipeline.launchToks (Pipeline.pin (pcfgs (F := F)) adm) cellOf_inj),
    launchOf bars dorm talkToks)

/-- The schedule's element, kept by device 0 until it is dealt. -/
def G (c : Dev nD) : sProp 𝕄 := if c = 0 then BI.own (ER (launchOf bars dorm talkToks)) else iprop(emp)
theorem bigSep_G : bigSep Finset.univ (G (F := F)) = BI.own (ER (launchOf bars dorm talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What every device may consult: all the invariants, and every barrier's first round. -/
def records (K : GSem nD τ sig → ℕ) : sProp 𝕄 := iprop(invs m K ∗ bigSep bars fun g => reached ER g 0)
instance records_persistent (K : GSem nD τ sig → ℕ) : BI.Persistent (records m K) := by unfold records; infer_instance

theorem reached_at (c : Dev nD) : (bigSep bars fun g => (reached ER g 0 : sProp 𝕄)) ⊢ reached ER (cell c barS) 0 := bigSep_elim (mem_bars c)

/-- What is dealt to device c of the schedule. -/
def linear (c : Dev nD) : sProp 𝕄 :=
  iprop(atPos ER (cell c barS) 0 ∅ 0
    ∗ (openTok ER (cell c s1S) ∗ openTok ER (cell c v1S) ∗ openTok ER (cell c s2S) ∗ openTok ER (cell c v2S) ∗ openTok ER (cell c cr1S) ∗ openTok ER (cell c cr2S))
    ∗ (tok (F := F) v1S false (p1 c) ∗ tok (F := F) s1S false c ∗ tok (F := F) v2S false (p2 c) ∗ tok (F := F) s2S false c
        ∗ tok (F := F) cr1S false (p1 c) ∗ tok (F := F) cr2S false (p2 c) ∗ tok (F := F) barS false (p1 c) ∗ tok (F := F) barS true (p2 c)))
/-- What else device c starts with. -/
def start (c : Dev nD) : sProp 𝕄 :=
  iprop(StableHlo.held (c : Thread nD τ) (Pipeline.ucRefs τ sig) (fun b => m (c, b)) ∗ Pipeline.launchCred (fun d => due d 0) c
    ∗ owes (c : Thread nD τ) (due c 0) ∅ ∗ ∃ r, prngReg c r)

abbrev T₀ (c : Dev nD) : sProp 𝕄 := iprop(StableHlo.held (c : Thread nD τ) (Pipeline.ucRefs τ sig) (fun b => m (c, b)) ∗ rIn m c)

theorem bundles_intro (c : Dev nD) :
    iprop(tok (F := F) v1S false (p1 c) ∗ tok (F := F) s1S false c ∗ tok (F := F) v2S false (p2 c) ∗ tok (F := F) s2S false c
        ∗ tok (F := F) cr1S false (p1 c) ∗ tok (F := F) cr2S false (p2 c)
        ∗ bigSep (Finset.Ico 0 32) fun k => iprop(cred (D1 c k) ∗ cred (D2 c k) ∗ cred (C1 c k) ∗ cred (C2 c k)))
      ⊢ (bundles c 0 : sProp 𝕄) := by
  unfold bundles bundle tok
  simp only [bigSep_sep']
  exact BI.Entails.refl _

theorem T₀_intro (K : GSem nD τ sig → ℕ) (c : Dev nD) : iprop(records m K ∗ (linear (F := F) c ∗ start m c)) ⊢ T₀ m c := by
  unfold records linear start T₀ rIn Tk held0
  rw [launch_credit]
  iintro ⟨⟨#HI, #HR⟩, ⟨Hat, Ho, Ht1, Ht2, Ht3, Ht4, Ht5, Ht6, Ht7, Ht8⟩, Hh, ⟨Hcb, Hcs⟩, HO, Hp⟩
  isplitl [Hh]; · iexact Hh
  isplitl [Hp]; · iexact Hp
  isplitr [HO]
  · iexists K
    isplitr; · iexact HI
    isplitl [Ht7]; · iapply (tok_first (F := F) barS false (p1 c)) $$ Ht7
    isplitl [Ht8]; · iapply (tok_first (F := F) barS true (p2 c)) $$ Ht8
    isplitl [Hcb]; · iexact Hcb
    isplitl [Hat]; · iexact Hat
    isplitl [Ho]; · iexact Ho
    isplitr; · iapply (reached_at (F := F) (p1 c)); iexact HR
    isplitr; · iapply (reached_at (F := F) (p2 c)); iexact HR
    iapply (bundles_intro (F := F) c)
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Hcs
  · iexists ∅; iexact HO

theorem unscoped_eq : ∀ sm : SemLoc sig, sm.isScoped .tc = false → sm = barS := by decide
theorem unscopedSems_eq (c : Dev nD) : (unscopedSems0 c : sProp 𝕄) = semVal (cell c barS) 0 := by
  unfold unscopedSems0
  rw [show (Finset.univ.filter fun sm : SemLoc sig => ¬ sm.isScoped .tc) = {barS} from by decide, BI.bigSep_singleton]

theorem init_core (c : Dev nD) : iprop(unscopedBufs c (fun b => m ((c : Thread nD τ).loc b)) ∗ unscopedSems0 c
        ∗ owes (c : Thread nD τ) (due c 0) ∅ ∗ Pipeline.launchCred (fun d => due d 0) c ∗ prngReg c (ρ c) ∗ G (F := F) c)
      ⊢ (iprop(start m c ∗ (semVal (cell c barS) 0 ∗ G (F := F) c)) : sProp 𝕄) := by
  rw [show unscopedBufs c (fun b => m ((c : Thread nD τ).loc b)) = StableHlo.held (c : Thread nD τ) (Pipeline.ucRefs τ sig) (fun b => m (c, b))
    from Pipeline.unscopedBufs_held c (fun b => m (c, b)), unscopedSems_eq]
  unfold start
  iintro ⟨Hh, Hus, HO, Hcr, Hp, HG⟩
  isplitl [Hh HO Hcr Hp]
  · isplitl [Hh]; · iexact Hh
    isplitl [Hcr]; · iexact Hcr
    isplitl [HO]; · iexact HO
    iexists (ρ c); iexact Hp
  isplitl [Hus] <;> iassumption

theorem over_bars (Φ : GSem nD τ sig → sProp 𝕄) : bigSep bars Φ = bigSep Finset.univ fun c : Dev nD => Φ (cell c barS) := bigSep_map (s := Finset.univ) _
theorem over_dorm (Φ : GSem nD τ sig → sProp 𝕄) :
    bigSep dorm Φ = bigSep Finset.univ fun c : Dev nD => iprop(Φ (cell c s1S) ∗ Φ (cell c v1S) ∗ Φ (cell c s2S) ∗ Φ (cell c v2S) ∗ Φ (cell c cr1S) ∗ Φ (cell c cr2S)) := by
  rw [dorm_eq, bigSep_map, bigSep_univ_prod]
  exact bigSep_congr fun c _ => bigSep_six (fun k : Fin 6 => Φ (cell c (osem k)))

/-- The invariants, positions, rights and tokens out of the schedule's launch element. -/
theorem init_cells : iprop((bigSep Finset.univ fun c : Dev nD => semVal (cell c barS) 0) ∗ bigSep Finset.univ (G (F := F)))
    ⊢ (|={Set.univ}=> iprop(∃ K, records m K ∗ bigSep Finset.univ (linear (F := F))) : sProp 𝕄) := by
  rw [bigSep_G, ← over_bars (fun g => (semVal g 0 : sProp 𝕄))]
  refine (Rounds.fund_launch ER (Rd m) disjoint_cells (fun g _ h => h) talkToks).trans (fupd_mono ?_)
  rw [over_dorm, over_bars (fun g => atPos ER g 0 ∅ 0), toks_eq, toks_around]
  unfold records invs linear
  simp only [bigSep_sep']
  iintro ⟨%K, -, #Hinv, #Hr, Hat, Hopen, Htok⟩
  iexists K
  isplitr
  · isplitr; · iexact Hinv
    iexact Hr
  isplitl [Hat]; · iexact Hat
  isplitl [Hopen]; · iexact Hopen
  iexact Htok

theorem fam_sep {Φ Ψ : Dev nD → sProp 𝕄} : bigSep Finset.univ (fun c => iprop(Φ c ∗ Ψ c)) ⊢ iprop(bigSep Finset.univ Φ ∗ bigSep Finset.univ Ψ) :=
  Entails.of_eq (bigSep_sep _ _ _)
@[inherit_doc fam_sep] theorem sep_fam {Φ Ψ : Dev nD → sProp 𝕄} : iprop(bigSep Finset.univ Φ ∗ bigSep Finset.univ Ψ) ⊢ bigSep Finset.univ (fun c => iprop(Φ c ∗ Ψ c)) :=
  Entails.of_eq (bigSep_sep _ _ _).symm

/-- Everything made at the launch and dealt. -/
theorem init :
    iprop((bigSep Finset.univ fun c : Dev nD => iprop(unscopedBufs c (fun b => m ((c : Thread nD τ).loc b)) ∗ unscopedSems0 c
          ∗ owes (c : Thread nD τ) (due c 0) ∅ ∗ Pipeline.launchCred (fun d => due d 0) c ∗ prngReg c (ρ c) ∗ G (F := F) c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (due c 0) ∅ ∗ Pipeline.launchCred (fun d => due d 0) c ∗ prngReg c (ρ c) ∗ G (F := F) c))
      ⊢ (bigSep Finset.univ fun c : Dev nD => iprop(start m c ∗ (semVal (cell c barS) 0 ∗ G (F := F) c)) : sProp 𝕄)
    from bigSep_mono fun c _ => init_core m ρ c) $$ H
  ihave H2 := fam_sep $$ H'; icases H2 with ⟨HB, H3⟩
  ihave H4 := fam_sep $$ H3
  imod (init_cells m) $$ H4 with ⟨%K, #HR, Hl⟩
  imodintro
  iapply (bigSep_with_persistent (R := records m K) (Φ := fun c => iprop(linear (F := F) c ∗ start m c)) fun c _ => T₀_intro m K c)
  isplitr
  · iexact HR
  iapply sep_fam
  isplitl [Hl]; · iexact Hl
  iexact HB

end Cert.KernelIdeal.AllReduce
-- ==== Proof.Run.lean ====
/- The run of the whole program: the segments in a row, and the final memory read off. -/
module

public import proofs.«01_k».proof.Proof.Init
public import Idealize.ShloMosaic.Lib.Quiescent

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

local notation "ℍ" => Pipeline.HostSeg (Name := ℕ) (U := UU) (pcfgs (F := F)) defs₀ 𝒱₀ L lv

/-! ## The segments -/

theorem arr_sub : Pipeline.arrRefs (τ := τ) spec0 ⊆ Pipeline.ucRefs τ sig := Pipeline.arrRefs_sub_ucRefs spec0 winFacts0.arr_unscoped

theorem reg0_pre (c : Dev nD) :
    iprop(StableHlo.held (c : Thread nD τ) (Pipeline.ucRefs τ sig) (V0 m c) ∗ rIn m c) ⊢ (reg0 m).pre c := by
  show _ ⊢ iprop(StableHlo.held (c.tc : Thread nD τ) (Pipeline.arrRefs (τ := τ) spec0) (V0 m c) ∗ (∃ r, prngReg c r)
    ∗ (StableHlo.held (c : Thread nD τ) others (V0 m c) ∗ emp) ∗ Tk m c ∗ ∃ Wd, owes (c : Thread nD τ) (0 + due c 0) Wd)
  rw [zero_add, StableHlo.held_sub_split (c : Thread nD τ) arr_sub]
  unfold rIn
  iintro ⟨⟨Ha, Ho⟩, Hp, HT, HO⟩
  isplitl [Ha]; · iexact Ha
  isplitl [Hp]; · iexact Hp
  isplitl [Ho]
  · isplitl [Ho]; · iexact Ho
    iempintro
  isplitl [HT]; · iexact HT
  iexact HO

theorem reg0_post (c : Dev nD) :
    (reg0 m).post c ⊢ iprop(StableHlo.held (c : Thread nD τ) (Pipeline.ucRefs τ sig) (W1 m c) ∗ rOut (F := F) c) := by
  show iprop(StableHlo.held (c.tc : Thread nD τ) (Pipeline.arrRefs (τ := τ) spec0) (W1 m c) ∗ (∃ r, prngReg c r)
    ∗ (StableHlo.held (c : Thread nD τ) others (W1 m c) ∗ emp) ∗ Yk c ∗ ∃ Wd, owes (c : Thread nD τ) (0 : CellTallies nD τ sig ℕ) Wd) ⊢ _
  rw [StableHlo.held_sub_split (c : Thread nD τ) arr_sub]
  unfold rOut Yk
  iintro ⟨Ha, Hp, ⟨Ho, -⟩, Hb, HO⟩
  isplitl [Ha Ho]
  · isplitl [Ha] <;> iassumption
  isplitl [Hp]; · iexact Hp
  isplitl [Hb]; · iexact Hb
  iexact HO

/-- A stretch of host lines after the kernel. -/
def after_seg (ops : List (HloOp τ sig (Elt F))) (hs : ops.Forall fun op => op.bufs ⊆ StableHlo.tcRefs τ sig) (hf : ops.Forall fun op => op.fresh = ∅)
    (W : Dev nD → Valuation τ sig (Elt F)) : ℍ :=
  Pipeline.HostSeg.ofOps _ _ _ _ _ (Pipeline.ucRefs τ sig) ops
    (fun op h => Pipeline.sub_ucRefs op (List.forall_iff_forall_mem.mp hs op h)) (List.forall_iff_forall_mem.mp hf) W (rOut (F := F))

/-- The buffers after each of the five stretches. -/
def Wt0 (c : Dev nD) : Valuation τ sig (Elt F) := StableHlo.after hostOps1 (W1 m c)
@[inherit_doc Wt0] def Wt1 (c : Dev nD) : Valuation τ sig (Elt F) := StableHlo.after hostOps1_1 (Wt0 m c)
@[inherit_doc Wt0] def Wt2 (c : Dev nD) : Valuation τ sig (Elt F) := StableHlo.after hostOps1_2 (Wt1 m c)
@[inherit_doc Wt0] def Wt3 (c : Dev nD) : Valuation τ sig (Elt F) := StableHlo.after hostOps1_3 (Wt2 m c)
/-- The buffers at the end. -/
def Wn (c : Dev nD) : Valuation τ sig (Elt F) := StableHlo.after hostOps1_4 (Wt3 m c)

def segs : List (Pipeline.Seg (pcfgs (F := F)) adm (pdats m) 0 defs₀ 𝒱₀ L lv) :=
  [.host (seg0 m), .region (reg0 m), .host (after_seg hostOps1 hostOps1_sub hostOps1_fresh (W1 m)),
    .host (after_seg hostOps1_1 hostOps1_1_sub hostOps1_1_fresh (Wt0 m)), .host (after_seg hostOps1_2 hostOps1_2_sub hostOps1_2_fresh (Wt1 m)),
    .host (after_seg hostOps1_3 hostOps1_3_sub hostOps1_3_fresh (Wt2 m)), .host (after_seg hostOps1_4 hostOps1_4_sub hostOps1_4_fresh (Wt3 m))]

theorem main_eq (c : Dev nD) : main (F := F) c = Pipeline.Seg.run (segs m) := by
  rw [Gen.main_chain, Pipeline.Seg.run_eq_chain]; rfl

/-! ## The arguments are kept -/

theorem Wn_flat (c : Dev nD) : Wn m c = StableHlo.after (List.flatten [hostOps1, hostOps1_1, hostOps1_2, hostOps1_3, hostOps1_4]) (W1 m c) := by
  unfold Wn Wt3 Wt2 Wt1 Wt0
  simp only [List.flatten_cons, List.flatten_nil, List.append_nil, StableHlo.after_append]

/-- No line after the kernel writes the first argument. -/
theorem Wn_arg0 (c : Dev nD) : Wn m c (Proc.devRef .tc main_arg0) = m ((c : Thread nD τ).loc main_arg0) := by
  rw [Wn_flat, StableHlo.after_of_forall_not_mem (b := Proc.devRef .tc main_arg0) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (Pipeline.withArrays_of_ne _ c (V0 m c) _ main_arg0 (by exact (by decide : ∀ w, Pipeline.arrRef spec0 w ≠ main_arg0))).trans (V_main_arg0 m c)
/-- No line after the kernel writes the second argument. -/
theorem Wn_arg1 (c : Dev nD) : Wn m c (Proc.devRef .tc main_arg1) = m ((c : Thread nD τ).loc main_arg1) := by
  rw [Wn_flat, StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (Pipeline.withArrays_of_ne _ c (V0 m c) _ main_arg1 (by exact (by decide : ∀ w, Pipeline.arrRef spec0 w ≠ main_arg1))).trans (V_main_arg1 m c)

/-! ## The run -/

/-- The three buffers the claims speak of. -/
abbrev read : Finset (DevRef τ sig) := {Proc.devRef .tc main_arg0, Proc.devRef .tc main_arg1, Proc.devRef .tc main_v29}
theorem read_sub : read ⊆ Pipeline.ucRefs τ sig := by decide

theorem held_read (c : Dev nD) (W : Valuation τ sig (Elt F)) : (StableHlo.held (c : Thread nD τ) read W : sProp 𝕄)
    = iprop(((c : Thread nD τ).loc main_arg0 ↦{fullShare} W main_arg0) ∗ ((c : Thread nD τ).loc main_arg1 ↦{fullShare} W main_arg1)
      ∗ ((c : Thread nD τ).loc main_v29 ↦{fullShare} W main_v29)) := by
  unfold StableHlo.held
  rw [BI.bigSep_insert (by decide), BI.bigSep_insert (by decide), BI.bigSep_singleton]
  rfl

abbrev Tₙ (c : Dev nD) : sProp 𝕄 := iprop(StableHlo.held (c : Thread nD τ) (Pipeline.ucRefs τ sig) (Wn m c) ∗ semVal (cell c barS) 0)

set_option backward.isDefEq.respectTransparency.types false in
/-- The run: from any memory with zero counters every weakly fair execution of @main on the four devices terminates, nothing
    faulting, the arguments unchanged, the result at the value the host lines compute from the kernel's array, and every
    semaphore counter of the machine at zero. -/
theorem run_main : θ_run defs (onTc (τ := τ) (main (F := F))) ⟨m, fun _ => 0, ρ⟩
    (fun r => (∀ c : Dev nD, r.2.mem ((c : Thread nD τ).loc main_v29) = Wn m c main_v29
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => due c 0) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := by
      refine ⟨fun c => .rfl, fun c => reg0_pre m c, fun c => reg0_post m c, fun c => .rfl, fun c => .rfl, fun c => .rfl, fun c => .rfl, fun c => ?_⟩
      show iprop(StableHlo.held (c : Thread nD τ) (Pipeline.ucRefs τ sig) (Wn m c) ∗ rOut (F := F) c)
        ⊢ iprop(Tₙ m c ∗ ∃ W, owes (c : Thread nD τ) (0 : CellTallies nD τ sig ℕ) W)
      unfold rOut
      iintro ⟨Hh, -, Hb0, HO⟩
      isplitr [HO]
      · isplitl [Hh] <;> iassumption
      · iexact HO)
    (hinit := init m ρ)
    (QY := fun c s => (s.mem ((c : Thread nD τ).loc main_arg0) = Wn m c main_arg0 ∧ s.mem ((c : Thread nD τ).loc main_arg1) = Wn m c main_arg1
      ∧ s.mem ((c : Thread nD τ).loc main_v29) = Wn m c main_v29) ∧ s.sem (cell c barS) = 0)
    (hfin := fun c s' => by
      dsimp only [Tₙ]; rw [StableHlo.held_sub_split (c : Thread nD τ) read_sub, held_read]
      iintro ⟨⟨⟨⟨Hx, Hy, Hz⟩, -⟩, Hb0⟩, HSI⟩
      icombine HSI Hx gives %hx
      icombine HSI Hy gives %hy
      icombine HSI Hz gives %hz
      icombine HSI Hb0 gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => by
        obtain ⟨⟨hx, hy, hz⟩, -⟩ := h c
        exact ⟨hz, hx.trans (Wn_arg0 m c), hy.trans (Wn_arg1 m c)⟩,
      sem_eq_zero hs fun c sm hsm => by
        obtain rfl := unscoped_eq sm hsm
        exact (h c).2⟩)

end Cert.KernelIdeal.AllReduce
-- ==== Proof.Readout.lean ====
/- The kernel's array read off: block by block the sum of the four partial products, and the host lines after it as one function. -/
module

public import proofs.«01_k».proof.Proof.Run
public import Idealize.ShloMosaic.Lib.Pipeline.ValueKit.Geometry
public import Idealize.ShloMosaic.Lib.Quiescent

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The kernel's array -/

/-- Device c's partial product, the array the kernel reads. -/
abbrev part (c : Dev nD) : Vec F S4096x8192 .f32 := V m c main_v1
/-- The sum the kernel leaves on device c, in the order it adds. -/
abbrev total (c : Dev nD) : Vec F S4096x8192 .f32 := addf (addf (part m c) (part m (p1 c))) (addf (part m (p2 c)) (part m (p1 (p2 c))))

theorem index_in : ∀ t : Fin cfg0.N, win0_0.index t = ![min t.val 31, 0] := (by decide +kernel : ∀ t : Fin grid0.N, _)
theorem index_out : ∀ t : Fin cfg0.N, win0_1.index t = ![t.val - 1, 0] := (by decide +kernel : ∀ t : Fin grid0.N, _)

/-- A row of a chunk is that row of the partial product. -/
theorem xb_apply (c : Dev nD) (t : Fin cfg0.N) (h : 0 < t.val) (y : S128x8192.Idx) :
    xb m c (t.val - 1) y = part m c ((win0_1.blk t).view.emb y) := by
  have ht : t.val < 33 := t.isLt
  show iblk m c 0 (point (t.val - 1)) y = _
  blk_simp [iblk]
  refine congrArg _ ?_
  have hp : (point (t.val - 1)).val = t.val - 1 := by show min (t.val - 1) 32 = _; omega
  blk_ext [index_in, index_out]

theorem arr_out (c : Dev nD) : (dat0 m c).arrAt 1 cfg0.N = total m c := by
  refine (dat0 m c).arrAt_eq_of_covers 1 _ (by decide +kernel) fun t hf y => ?_
  have h : 0 < t.val := by rw [flush_out] at hf; exact of_decide_eq_true hf
  blk_simp
  show k0_pay1 (sum1 m c (t.val - 1)) (sum1 m (p2 c) (t.val - 1)) y = _
  unfold k0_pay1 sum1 k0_pay2
  simp only [shapeCast_self]
  show FloatOps.addf (FloatOps.addf (xb m c (t.val - 1) y) (xb m (p1 c) (t.val - 1) y))
    (FloatOps.addf (xb m (p2 c) (t.val - 1) y) (xb m (p1 (p2 c)) (t.val - 1) y)) = _
  rw [xb_apply m _ t h, xb_apply m _ t h, xb_apply m _ t h, xb_apply m _ t h]
  rfl

end Cert.KernelIdeal.AllReduce
-- ==== Proof.Value.lean ====
/- The value: the four partial products' sum is the whole product, and the lines after it are the reference's. -/
module

public import proofs.«01_k».proof.Proof.Readout
public import proofs.«01_k».proof.Proof.Gen.ReferenceIdeal.Run
public import Idealize.ShloMosaic.Lib.Layout
public import Idealize.ShloMosaic.Lib.StackMember
public import Idealize.ShloMosaic.Lib.Pointwise.Sums
public import Idealize.ShloMosaic.Lib.Quiescent

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The lines after the product -/

/-- The largest magnitude over 448. -/
def scale (y : Vec F S4096x8192 .f32) : Vec F S_ .f32 :=
  Host.divf (Host.reduce FloatOps.maximumf (Host.absf y) (constant S_ .f32 0xFF800000#32) reducesTo_S4096x8192_S_d0_1 h_S_) (constant S_ .f32 0x43E00000#32)
/-- A scalar at every place. -/
abbrev fill (x : Vec F S_ .f32) : Vec F S4096x8192 .f32 := broadcastInDim S4096x8192 ![] bcast_S_S4096x8192 x
/-- The array over its scale. -/
def scaled (y : Vec F S4096x8192 .f32) : Vec F S4096x8192 .f32 := Host.divf y (fill (scale y))
/-- The logarithm of two at every place. -/
abbrev logTwo : Vec F S4096x8192 .f32 := Host.log (fill (constant S_ .f32 0x40000000#32))
/-- The grid's step at a magnitude. -/
def stepOf (a : Vec F S4096x8192 .f32) : Vec F S4096x8192 .f32 :=
  select (cmpf .oge a (fill (constant S_ .f32 0x3C800000#32)))
    (Host.exp (mulf (subf (Host.floor (Host.divf (Host.log a) logTwo)) (fill (constant S_ .f32 0x40400000#32))) logTwo))
    (fill (constant S_ .f32 0x3B000000#32))
/-- The quantised and rescaled array. -/
def tail (y : Vec F S4096x8192 .f32) : Vec F S4096x8192 .f32 :=
  mulf (mulf (Host.sign (scaled y))
      (minimumf (mulf (Host.roundeven (Host.divf (Host.absf (scaled y)) (stepOf (Host.absf (scaled y))))) (stepOf (Host.absf (scaled y))))
        (fill (constant S_ .f32 0x43E00000#32))))
    (fill (scale y))

set_option maxHeartbeats 2000000 in
/-- The kernel's program computes it of the array the kernel leaves. -/
theorem Wn_out (c : Dev nD) : Wn m c main_v29 = tail (total m c) := by
  have h2 : W1 m c (Proc.devRef .tc main_v2) = total m c := (W1_arr m c 1).trans (arr_out m c)
  rw [← h2, Wn_flat]
  generalize W1 m c = W
  simp only [hostOps1, hostOps1_1, hostOps1_2, hostOps1_3, hostOps1_4, List.flatten_cons, List.flatten_nil, List.append_nil, List.cons_append, List.nil_append,
    StableHlo.TRef.ternary, StableHlo.TRef.unary, StableHlo.TRef.toBuf, StableHlo.TRef.ofBuf, cast_eq]
  after_results_simp <;> (unfold tail scaled stepOf scale; rfl)

/-- The reference computes it of the whole product. -/
theorem res_eq (m' : (ℓ : Loc Cert.ReferenceIdeal.nD Cert.ReferenceIdeal.τ Cert.ReferenceIdeal.sig) → Buf (Elt F) ℓ) (c : Dev Cert.ReferenceIdeal.nD) :
    Cert.ReferenceIdeal.Value.res_main_v27 m' c
      = tail (Host.dotGeneral Cert.ReferenceIdeal.dot_S4096x4096_S4096x8192_S4096x8192_1_0_0_1_n_n none
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))) := by
  unfold Cert.ReferenceIdeal.Value.res_main_v27 tail scaled stepOf scale
  rfl

/-! ## The product -/

open Idealize.ShloMosaic.StackMember

/-- A device's partial product is the product of its two arguments. -/
theorem part_eq (c : Dev nD) : part m c = Host.dotGeneral dot_S4096x1024_S1024x8192_S4096x8192_1_0_0_1_n_n (some .fp32)
    (m ((c : Thread nD τ).loc main_arg0)) (m ((c : Thread nD τ).loc main_arg1)) := by
  show StableHlo.after (List.flatten [hostOps0]) _ (Proc.devRef .tc main_v1) = _
  simp only [hostOps0, List.flatten_cons, List.flatten_nil, List.append_nil]
  after_results_simp <;> rfl

/-- The devices' places, in the order the kernel adds them, are all four. -/
theorem four_devices (f : Dev nD → EReal) : ∀ c : Dev nD, f c + f (p1 c) + (f (p2 c) + f (p1 (p2 c))) = ∑ d : Dev nD, f d := by
  intro c
  rw [show (∑ d : Dev nD, f d) = f 0 + f 1 + f 2 + f 3 from Fin.sum_univ_four f]
  revert c
  have a0 : p1 0 = 1 := by decide
  have a1 : p1 1 = 0 := by decide
  have a2 : p1 2 = 3 := by decide
  have a3 : p1 3 = 2 := by decide
  have b0 : p2 0 = 3 := by decide
  have b1 : p2 1 = 2 := by decide
  have b2 : p2 2 = 1 := by decide
  have b3 : p2 3 = 0 := by decide
  intro c
  match c with
  | 0 => rw [b0, a0, a3]; ac_rfl
  | 1 => rw [b1, a1, a2]; ac_rfl
  | 2 => rw [b2, a2, a1]; ac_rfl
  | 3 => rw [b3, a3, a0]; ac_rfl

/-- The sum of the four partial products over the blocks of two arrays is the product of the arrays. -/
theorem total_eq (m : (ℓ : Loc nD τ sig) → Buf (Elt Ideal) ℓ) (A : FVec Ideal ⟨2, ![4096, 4096]⟩ .f32) (B : FVec Ideal ⟨2, ![4096, 8192]⟩ .f32)
    (h : ∀ c : Dev nD, m ((c : Thread nD τ).loc main_arg0) = Layout.block ⟨2, ![4096, 1024]⟩ ⟨2, ![4096, 4096]⟩ 1 4 c A
      ∧ m ((c : Thread nD τ).loc main_arg1) = Layout.block ⟨2, ![1024, 8192]⟩ ⟨2, ![4096, 8192]⟩ 0 4 c B) (c : Dev nD) :
    total m c = Host.dotGeneral Cert.ReferenceIdeal.dot_S4096x4096_S4096x8192_S4096x8192_1_0_0_1_n_n none A B := by
  funext i
  obtain ⟨a, b, rfl⟩ : ∃ (a : Fin 4096) (b : Fin 8192), i = ValueIdx.ix2 a b := ⟨i 0, i 1, ValueIdx.eq_ix2 i⟩
  have hp (d : Dev nD) : part m d (ValueIdx.ix2 a b) = ∑ k : Fin 1024, A (ValueIdx.ix2 a ⟨d.val * 1024 + k.val, by have := k.isLt; have : d.val < 4 := d.isLt; omega⟩)
      * B (ValueIdx.ix2 ⟨d.val * 1024 + k.val, by have := k.isLt; have : d.val < 4 := d.isLt; omega⟩ b) := by
    rw [part_eq, (h d).1, (h d).2]
    refine (dotGeneral_plain_apply (m := 4096) (n := 8192) (k := 1024) (some .fp32) _ _ a b).trans ?_
    refine Finset.sum_congr rfl fun k _ => ?_
    rw [Layout.block_apply, Layout.block_apply]
    refine congrArg₂ (· * ·) (congrArg A ?_) (congrArg B ?_)
    · funext ax; apply Fin.ext
      match ax with
      | ⟨0, _⟩ => rfl
      | ⟨1, _⟩ => rfl
    · funext ax; apply Fin.ext
      match ax with
      | ⟨0, _⟩ => rfl
      | ⟨1, _⟩ => rfl
  refine Eq.trans ?_ (dotGeneral_plain_apply (m := 4096) (n := 8192) (k := 4096) none A B a b).symm
  rw [Fin.sum_univ_tiles 4 1024 (by decide)]
  refine Eq.trans ?_ (Finset.sum_congr rfl fun d _ => hp d)
  exact four_devices (fun d => part m d (ValueIdx.ix2 a b)) c

end Cert.KernelIdeal.AllReduce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed and the kernel read over the extended reals have the same table of bodies. -/
theorem bodies_eq : Cert.Kernel.defs₀ (F := Bits) = Cert.KernelIdeal.defs₀ (F := Bits) := by
  funext pr ℓ a
  cases pr with
  | tc =>
    match ℓ, a with
    | 0, (_, _) => rfl
  | scScalar _ => rfl
  | scVector _ _ => rfl

/-- So they have the same table of bodies and pipelines. -/
theorem defs_eq : Cert.Kernel.defs (F := Bits) = Cert.KernelIdeal.defs (F := Bits) := by
  unfold Cert.Kernel.defs Cert.KernelIdeal.defs
  rw [bodies_eq]; rfl

/-- The kernel as printed runs on the four devices, its arguments unchanged and every semaphore back at zero. -/
theorem frame_kernel : Cert.quiescent_Kernel (hKernel := Cert.Kernel.Gen.facts) := by
  intro m g _
  rw [defs_eq]
  exact (θ_run Cert.KernelIdeal.defs _ _).mono (fun _ h => ⟨fun c => (h.1 c).2, h.2⟩)
    (Cert.KernelIdeal.AllReduce.run_main (F := Bits) m g)

/-- The same of the kernel over the extended reals. -/
theorem frame_kernel_ideal : Cert.quiescent_KernelIdeal (hKernelIdeal := Cert.KernelIdeal.Gen.facts) :=
  fun m g _ => (θ_run Cert.KernelIdeal.defs _ _).mono (fun _ h => ⟨fun c => (h.1 c).2, h.2⟩) (Cert.KernelIdeal.AllReduce.run_main (F := Ideal) m g)

/-- The same of the reference over the extended reals. -/
theorem frame_reference : Cert.quiescent_ReferenceIdeal (hReferenceIdeal := Cert.ReferenceIdeal.Gen.facts) :=
  fun m g _ => (θ_run _ _ _).mono (fun r h => ⟨fun c => (h c).2, sem_eq_zero_of_no_sems (by decide) r.2⟩) (Cert.ReferenceIdeal.Value.run (F := Ideal) m g)

/-- Over the extended reals every device of the kernel ends holding the reference's result. -/
theorem algebraic : Cert.algebraic_KernelIdeal_ReferenceIdeal (hKernelIdeal := Cert.KernelIdeal.Gen.facts) (hReferenceIdeal := Cert.ReferenceIdeal.Gen.facts) := by
  intro m g m' g' _ h
  refine ⟨Cert.ReferenceIdeal.Value.res_main_v27 m' 0, ?_, ?_⟩
  · refine (θ_run _ _ _).mono (fun r hr c => ?_) (Cert.KernelIdeal.AllReduce.run_main (F := Ideal) m g)
    obtain ⟨hv, ha, hb⟩ := hr.1 c
    refine ⟨hv.trans ?_, ha, hb⟩
    rw [Cert.KernelIdeal.AllReduce.Wn_out, Cert.KernelIdeal.AllReduce.total_eq m _ _ h c]
    exact (Cert.KernelIdeal.AllReduce.res_eq m' 0).symm
  · exact (θ_run _ _ _).mono (fun r hr => hr 0) (Cert.ReferenceIdeal.Value.run (F := Ideal) m' g')

theorem claim : Cert.Claim := ⟨Cert.Kernel.Gen.facts, Cert.KernelIdeal.Gen.facts, Cert.ReferenceIdeal.Gen.facts,
  frame_kernel, frame_kernel_ideal, frame_reference, trivial, algebraic⟩

end Cert.Proof

end
